-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pack.Statement Cert.KernelIdeal.S4x1024x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x576x256 : Shape := ⟨3, ![8, 576, 256]⟩
abbrev S4x1024x256 : Shape := ⟨3, ![4, 1024, 256]⟩
abbrev S_ : Shape := ⟨0, ![]⟩

class Facts : Prop where
  bcast_S_S8x576x256 : S_.BroadcastsInDim S8x576x256 (![] : Fin 0 → Fin S8x576x256.rank)
  reducesTo_S8x576x256_S_d0_1_2 : S8x576x256.ReducesTo [0, 1, 2] S_
  h_S_ : 0 < S_.numel
  bcast_S_S4x1024x256 : S_.BroadcastsInDim S4x1024x256 (![] : Fin 0 → Fin S4x1024x256.rank)
  reducesTo_S4x1024x256_S_d0_1_2 : S4x1024x256.ReducesTo [0, 1, 2] S_

variable [Facts]

def fn {F : FTy → Type} [FloatOps F] (main_arg0 : FVec F S8x576x256 .f32) (main_arg1 : FVec F S4x1024x256 .f32) : IVec S_ 1 :=
  let main_v0 : FVec F S8x576x256 .f32 := Host.absf main_arg0
  let main_cst : FVec F S_ .f32 := constant S_ .f32 0x7F800000#32
  let main_v1 : FVec F S8x576x256 .f32 := broadcastInDim S8x576x256 ![] bcast_S_S8x576x256 main_cst
  let main_v2 : IVec S8x576x256 1 := cmpf .olt main_v0 main_v1
  let main_c : IVec S_ 1 := constantI S_ 1 1#1
  let main_v3 : IVec S_ 1 := (fun x v => Host.reduce IntOp.andi x v reducesTo_S8x576x256_S_d0_1_2 h_S_) main_v2 main_c
  let main_v4 : FVec F S4x1024x256 .f32 := Host.absf main_arg1
  let main_cst_0 : FVec F S_ .f32 := constant S_ .f32 0x7F800000#32
  let main_v5 : FVec F S4x1024x256 .f32 := broadcastInDim S4x1024x256 ![] bcast_S_S4x1024x256 main_cst_0
  let main_v6 : IVec S4x1024x256 1 := cmpf .olt main_v4 main_v5
  let main_c_1 : IVec S_ 1 := constantI S_ 1 1#1
  let main_v7 : IVec S_ 1 := (fun x v => Host.reduce IntOp.andi x v reducesTo_S4x1024x256_S_d0_1_2 h_S_) main_v6 main_c_1
  let main_v8 : IVec S_ 1 := andi main_v3 main_v7
  main_v8
-- ==== Kernel.lean ====
abbrev S8x576x256 : Shape := ⟨3, ![8, 576, 256]⟩
abbrev S4x1024x256 : Shape := ⟨3, ![4, 1024, 256]⟩
abbrev S4608x256 : Shape := ⟨2, ![4608, 256]⟩
abbrev S4608x128 : Shape := ⟨2, ![4608, 128]⟩
abbrev S4x8x128 : Shape := ⟨3, ![4, 8, 128]⟩
abbrev S1152x256 : Shape := ⟨2, ![1152, 256]⟩
abbrev S1152x128 : Shape := ⟨2, ![1152, 128]⟩
abbrev S1x8x128 : Shape := ⟨3, ![1, 8, 128]⟩
abbrev S4x1x1024 : Shape := ⟨3, ![4, 1, 1024]⟩
abbrev S4x1024 : Shape := ⟨2, ![4, 1024]⟩
abbrev S1152x1024 : Shape := ⟨2, ![1152, 1024]⟩
abbrev S8x128 : Shape := ⟨2, ![8, 128]⟩
abbrev S1x1024x256 : Shape := ⟨3, ![1, 1024, 256]⟩
abbrev S1024x256 : Shape := ⟨2, ![1024, 256]⟩
abbrev S1152 : Shape := ⟨1, ![1152]⟩
abbrev S1152x1 : Shape := ⟨2, ![1152, 1]⟩
abbrev S1x1x1024 : Shape := ⟨3, ![1, 1, 1024]⟩
abbrev S1x1024 : Shape := ⟨2, ![1, 1024]⟩
abbrev S1x1152x256 : Shape := ⟨3, ![1, 1152, 256]⟩
abbrev S1 : Shape := ⟨1, ![1]⟩
abbrev S1x1x1 : Shape := ⟨3, ![1, 1, 1]⟩
abbrev S4608x4 : Shape := ⟨2, ![4608, 4]⟩
abbrev S8x576x4 : Shape := ⟨3, ![8, 576, 4]⟩
abbrev S_ : Shape := ⟨0, ![]⟩
abbrev S128 : Shape := ⟨1, ![128]⟩
abbrev S4 : Shape := ⟨1, ![4]⟩

abbrev nBuf : Space → Nat
  | .hbm => 15
  | .vmem => 13
  | .smem => 0
  | _ => 0

abbrev bufTy : (tb : Table) → Fin (tcTables nBuf tb) → BufTy
  | .hbm, ⟨0, _⟩ => ⟨S8x576x256, .f32⟩
  | .hbm, ⟨1, _⟩ => ⟨S4x1024x256, .f32⟩
  | .hbm, ⟨2, _⟩ => ⟨S4608x256, .f32⟩
  | .hbm, ⟨3, _⟩ => ⟨S4608x256, .f32⟩
  | .hbm, ⟨4, _⟩ => ⟨S4608x128, .i32⟩
  | .hbm, ⟨5, _⟩ => ⟨S4x8x128, .f32⟩
  | .hbm, ⟨6, _⟩ => ⟨S8x576x256, .f32⟩
  | .hbm, ⟨7, _⟩ => ⟨S4608x4, .i32⟩
  | .hbm, ⟨8, _⟩ => ⟨S8x576x4, .i32⟩
  | .hbm, ⟨9, _⟩ => ⟨S_, .f32⟩
  | .hbm, ⟨10, _⟩ => ⟨S128, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .local _ .vmem, ⟨0, _⟩ => ⟨S1152x256, .f32⟩
  | .local _ .vmem, ⟨1, _⟩ => ⟨S1152x256, .f32⟩
  | .local _ .vmem, ⟨2, _⟩ => ⟨S4x1024x256, .f32⟩
  | .local _ .vmem, ⟨3, _⟩ => ⟨S1152x256, .f32⟩
  | .local _ .vmem, ⟨4, _⟩ => ⟨S1152x256, .f32⟩
  | .local _ .vmem, ⟨5, _⟩ => ⟨S1152x128, .i32⟩
  | .local _ .vmem, ⟨6, _⟩ => ⟨S1152x128, .i32⟩
  | .local _ .vmem, ⟨7, _⟩ => ⟨S1x8x128, .f32⟩
  | .local _ .vmem, ⟨8, _⟩ => ⟨S1x8x128, .f32⟩
  | .local _ .vmem, ⟨9, _⟩ => ⟨S4x1024x256, .bf16⟩
  | .local _ .vmem, ⟨10, _⟩ => ⟨S4x1024x256, .bf16⟩
  | .local _ .vmem, ⟨11, _⟩ => ⟨S4x1024x256, .bf16⟩
  | .local _ .vmem, ⟨12, _⟩ => ⟨S4x1x1024, .f32⟩
  | _, _ => ⟨S8x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1152x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S8x576x256 : Shape := ⟨3, ![8, 576, 256]⟩
abbrev S4x1024x256 : Shape := ⟨3, ![4, 1024, 256]⟩
abbrev S_ : Shape := ⟨0, ![]⟩
abbrev S1x1024x256 : Shape := ⟨3, ![1, 1024, 256]⟩
abbrev S1024x256 : Shape := ⟨2, ![1024, 256]⟩
abbrev S8x576 : Shape := ⟨2, ![8, 576]⟩
abbrev S8x576x1 : Shape := ⟨3, ![8, 576, 1]⟩
abbrev S8x576x1024 : Shape := ⟨3, ![8, 576, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S8x576x4 : Shape := ⟨3, ![8, 576, 4]⟩
abbrev S4 : Shape := ⟨1, ![4]⟩

abbrev nBuf : Space → Nat
  | .hbm => 238
  | .vmem => 0
  | .smem => 0
  | _ => 0

abbrev hbmTy0_0 (i : Nat) : BufTy := match i % 128 with
  | 0 => ⟨S8x576x256, .f32⟩
  | 1 => ⟨S4x1024x256, .f32⟩
  | 2 => ⟨S_, .f32⟩
  | 3 => ⟨S8x576x256, .f32⟩
  | 4 => ⟨S1x1024x256, .f32⟩
  | 5 => ⟨S1024x256, .f32⟩
  | 6 => ⟨S8x576x256, .f32⟩
  | 7 => ⟨S_, .f32⟩
  | 8 => ⟨S8x576, .f32⟩
  | 9 => ⟨S8x576x1, .f32⟩
  | 10 => ⟨S8x576x1024, .f32⟩
  | 11 => ⟨S_, .f32⟩
  | 12 => ⟨S8x576x1024, .f32⟩
  | 13 => ⟨S8x576x1024, .f32⟩
  | 14 => ⟨S8x576x1024, .f32⟩
  | 15 => ⟨S8x576x1024, .f32⟩
  | 16 => ⟨S1024x256, .f32⟩
  | 17 => ⟨S_, .f32⟩
  | 18 => ⟨S1024, .f32⟩
  | 19 => ⟨S1x1x1024, .f32⟩
  | 20 => ⟨S8x576x1024, .f32⟩
  | 21 => ⟨S8x576x1024, .f32⟩
  | 22 => ⟨S8x576x1024, .i32⟩
  | 23 => ⟨S_, .f32⟩
  | 24 => ⟨S_, .i32⟩
  | 25 => ⟨S8x576, .f32⟩
  | 26 => ⟨S8x576, .i32⟩
  | 27 => ⟨S_, .i32⟩
  | 28 => ⟨S8x576, .i32⟩
  | 29 => ⟨S8x576, .i1⟩
  | 30 => ⟨S_, .i32⟩
  | 31 => ⟨S8x576, .i32⟩
  | 32 => ⟨S8x576, .i32⟩
  | 33 => ⟨S8x576, .i32⟩
  | 34 => ⟨S8x576x1, .i32⟩
  | 35 => ⟨S1, .i32⟩
  | 36 => ⟨S_, .i32⟩
  | 37 => ⟨S8x576x1, .i32⟩
  | 38 => ⟨S8x576x1, .i1⟩
  | 39 => ⟨S1x1x1, .i32⟩
  | 40 => ⟨S8x576x1, .i32⟩
  | 41 => ⟨S8x576x1, .i1⟩
  | 42 => ⟨S8x576x1, .i1⟩
  | 43 => ⟨S_, .i1⟩
  | 44 => ⟨S8x576, .i1⟩
  | 45 => ⟨S8x576x256, .f32⟩
  | 46 => ⟨S8x576x256, .i1⟩
  | 47 => ⟨S_, .f32⟩
  | 48 => ⟨S8x576x256, .f32⟩
  | 49 => ⟨S8x576x256, .f32⟩
  | 50 => ⟨S8x576x256, .f32⟩
  | 51 => ⟨S8x576x256, .f32⟩
  | 52 => ⟨S_, .f32⟩
  | 53 => ⟨S_, .f32⟩
  | 54 => ⟨S_, .f32⟩
  | 55 => ⟨S_, .f32⟩
  | 56 => ⟨S8x576x256, .f32⟩
  | 57 => ⟨S8x576x256, .f32⟩
  | 58 => ⟨S8x576x256, .f32⟩
  | 59 => ⟨S8x576x256, .f32⟩
  | 60 => ⟨S1x1024x256, .f32⟩
  | 61 => ⟨S1024x256, .f32⟩
  | 62 => ⟨S8x576x256, .f32⟩
  | 63 => ⟨S_, .f32⟩
  | 64 => ⟨S8x576, .f32⟩
  | 65 => ⟨S8x576x1, .f32⟩
  | 66 => ⟨S8x576x1024, .f32⟩
  | 67 => ⟨S_, .f32⟩
  | 68 => ⟨S8x576x1024, .f32⟩
  | 69 => ⟨S8x576x1024, .f32⟩
  | 70 => ⟨S8x576x1024, .f32⟩
  | 71 => ⟨S8x576x1024, .f32⟩
  | 72 => ⟨S1024x256, .f32⟩
  | 73 => ⟨S_, .f32⟩
  | 74 => ⟨S1024, .f32⟩
  | 75 => ⟨S1x1x1024, .f32⟩
  | 76 => ⟨S8x576x1024, .f32⟩
  | 77 => ⟨S8x576x1024, .f32⟩
  | 78 => ⟨S8x576x1024, .i32⟩
  | 79 => ⟨S_, .f32⟩
  | 80 => ⟨S_, .i32⟩
  | 81 => ⟨S8x576, .f32⟩
  | 82 => ⟨S8x576, .i32⟩
  | 83 => ⟨S_, .i32⟩
  | 84 => ⟨S8x576, .i32⟩
  | 85 => ⟨S8x576, .i1⟩
  | 86 => ⟨S_, .i32⟩
  | 87 => ⟨S8x576, .i32⟩
  | 88 => ⟨S8x576, .i32⟩
  | 89 => ⟨S8x576, .i32⟩
  | 90 => ⟨S8x576x1, .i32⟩
  | 91 => ⟨S1, .i32⟩
  | 92 => ⟨S_, .i32⟩
  | 93 => ⟨S8x576x1, .i32⟩
  | 94 => ⟨S8x576x1, .i1⟩
  | 95 => ⟨S1x1x1, .i32⟩
  | 96 => ⟨S8x576x1, .i32⟩
  | 97 => ⟨S8x576x1, .i1⟩
  | 98 => ⟨S8x576x1, .i1⟩
  | 99 => ⟨S_, .i1⟩
  | 100 => ⟨S8x576, .i1⟩
  | 101 => ⟨S8x576x256, .f32⟩
  | 102 => ⟨S8x576x256, .i1⟩
  | 103 => ⟨S_, .f32⟩
  | 104 => ⟨S8x576x256, .f32⟩
  | 105 => ⟨S8x576x256, .f32⟩
  | 106 => ⟨S8x576x256, .f32⟩
  | 107 => ⟨S8x576x256, .f32⟩
  | 108 => ⟨S_, .f32⟩
  | 109 => ⟨S_, .f32⟩
  | 110 => ⟨S_, .f32⟩
  | 111 => ⟨S_, .f32⟩
  | 112 => ⟨S8x576x256, .f32⟩
  | 113 => ⟨S8x576x256, .f32⟩
  | 114 => ⟨S8x576x256, .f32⟩
  | 115 => ⟨S8x576x256, .f32⟩
  | 116 => ⟨S1x1024x256, .f32⟩
  | 117 => ⟨S1024x256, .f32⟩
  | 118 => ⟨S8x576x256, .f32⟩
  | 119 => ⟨S_, .f32⟩
  | 120 => ⟨S8x576, .f32⟩
  | 121 => ⟨S8x576x1, .f32⟩
  | 122 => ⟨S8x576x1024, .f32⟩
  | 123 => ⟨S_, .f32⟩
  | 124 => ⟨S8x576x1024, .f32⟩
  | 125 => ⟨S8x576x1024, .f32⟩
  | 126 => ⟨S8x576x1024, .f32⟩
  | 127 => ⟨S8x576x1024, .f32⟩
  | _ => ⟨S8x576x256, .f32⟩

abbrev hbmTy0_1 (i : Nat) : BufTy := match i % 128 with
  | 0 => ⟨S1024x256, .f32⟩
  | 1 => ⟨S_, .f32⟩
  | 2 => ⟨S1024, .f32⟩
  | 3 => ⟨S1x1x1024, .f32⟩
  | 4 => ⟨S8x576x1024, .f32⟩
  | 5 => ⟨S8x576x1024, .f32⟩
  | 6 => ⟨S8x576x1024, .i32⟩
  | 7 => ⟨S_, .f32⟩
  | 8 => ⟨S_, .i32⟩
  | 9 => ⟨S8x576, .f32⟩
  | 10 => ⟨S8x576, .i32⟩
  | 11 => ⟨S_, .i32⟩
  | 12 => ⟨S8x576, .i32⟩
  | 13 => ⟨S8x576, .i1⟩
  | 14 => ⟨S_, .i32⟩
  | 15 => ⟨S8x576, .i32⟩
  | 16 => ⟨S8x576, .i32⟩
  | 17 => ⟨S8x576, .i32⟩
  | 18 => ⟨S8x576x1, .i32⟩
  | 19 => ⟨S1, .i32⟩
  | 20 => ⟨S_, .i32⟩
  | 21 => ⟨S8x576x1, .i32⟩
  | 22 => ⟨S8x576x1, .i1⟩
  | 23 => ⟨S1x1x1, .i32⟩
  | 24 => ⟨S8x576x1, .i32⟩
  | 25 => ⟨S8x576x1, .i1⟩
  | 26 => ⟨S8x576x1, .i1⟩
  | 27 => ⟨S_, .i1⟩
  | 28 => ⟨S8x576, .i1⟩
  | 29 => ⟨S8x576x256, .f32⟩
  | 30 => ⟨S8x576x256, .i1⟩
  | 31 => ⟨S_, .f32⟩
  | 32 => ⟨S8x576x256, .f32⟩
  | 33 => ⟨S8x576x256, .f32⟩
  | 34 => ⟨S8x576x256, .f32⟩
  | 35 => ⟨S8x576x256, .f32⟩
  | 36 => ⟨S_, .f32⟩
  | 37 => ⟨S_, .f32⟩
  | 38 => ⟨S_, .f32⟩
  | 39 => ⟨S_, .f32⟩
  | 40 => ⟨S8x576x256, .f32⟩
  | 41 => ⟨S8x576x256, .f32⟩
  | 42 => ⟨S8x576x256, .f32⟩
  | 43 => ⟨S8x576x256, .f32⟩
  | 44 => ⟨S1x1024x256, .f32⟩
  | 45 => ⟨S1024x256, .f32⟩
  | 46 => ⟨S8x576x256, .f32⟩
  | 47 => ⟨S_, .f32⟩
  | 48 => ⟨S8x576, .f32⟩
  | 49 => ⟨S8x576x1, .f32⟩
  | 50 => ⟨S8x576x1024, .f32⟩
  | 51 => ⟨S_, .f32⟩
  | 52 => ⟨S8x576x1024, .f32⟩
  | 53 => ⟨S8x576x1024, .f32⟩
  | 54 => ⟨S8x576x1024, .f32⟩
  | 55 => ⟨S8x576x1024, .f32⟩
  | 56 => ⟨S1024x256, .f32⟩
  | 57 => ⟨S_, .f32⟩
  | 58 => ⟨S1024, .f32⟩
  | 59 => ⟨S1x1x1024, .f32⟩
  | 60 => ⟨S8x576x1024, .f32⟩
  | 61 => ⟨S8x576x1024, .f32⟩
  | 62 => ⟨S8x576x1024, .i32⟩
  | 63 => ⟨S_, .f32⟩
  | 64 => ⟨S_, .i32⟩
  | 65 => ⟨S8x576, .f32⟩
  | 66 => ⟨S8x576, .i32⟩
  | 67 => ⟨S_, .i32⟩
  | 68 => ⟨S8x576, .i32⟩
  | 69 => ⟨S8x576, .i1⟩
  | 70 => ⟨S_, .i32⟩
  | 71 => ⟨S8x576, .i32⟩
  | 72 => ⟨S8x576, .i32⟩
  | 73 => ⟨S8x576, .i32⟩
  | 74 => ⟨S8x576x1, .i32⟩
  | 75 => ⟨S1, .i32⟩
  | 76 => ⟨S_, .i32⟩
  | 77 => ⟨S8x576x1, .i32⟩
  | 78 => ⟨S8x576x1, .i1⟩
  | 79 => ⟨S1x1x1, .i32⟩
  | 80 => ⟨S8x576x1, .i32⟩
  | 81 => ⟨S8x576x1, .i1⟩
  | 82 => ⟨S8x576x1, .i1⟩
  | 83 => ⟨S_, .i1⟩
  | 84 => ⟨S8x576, .i1⟩
  | 85 => ⟨S8x576x256, .f32⟩
  | 86 => ⟨S8x576x256, .i1⟩
  | 87 => ⟨S_, .f32⟩
  | 88 => ⟨S8x576x256, .f32⟩
  | 89 => ⟨S8x576x256, .f32⟩
  | 90 => ⟨S8x576x256, .f32⟩
  | 91 => ⟨S8x576x256, .f32⟩
  | 92 => ⟨S_, .f32⟩
  | 93 => ⟨S_, .f32⟩
  | 94 => ⟨S_, .f32⟩
  | 95 => ⟨S_, .f32⟩
  | 96 => ⟨S8x576x256, .f32⟩
  | 97 => ⟨S8x576x256, .f32⟩
  | 98 => ⟨S8x576x256, .f32⟩
  | 99 => ⟨S8x576x256, .f32⟩
  | 100 => ⟨S8x576x1, .i32⟩
  | 101 => ⟨S8x576x1, .i32⟩
  | 102 => ⟨S8x576x1, .i32⟩
  | 103 => ⟨S8x576x1, .i32⟩
  | 104 => ⟨S8x576x4, .i32⟩
  | 105 => ⟨S1, .f32⟩
  | 106 => ⟨S1, .f32⟩
  | 107 => ⟨S1, .f32⟩
  | 108 => ⟨S1, .f32⟩
  | 109 => ⟨S4, .f32⟩
  | _ => ⟨S8x576x256, .f32⟩

abbrev hbmTy (i : Nat) : BufTy := match i / 128 with
  | 0 => hbmTy0_0 i
  | 1 => hbmTy0_1 i
  | _ => ⟨S8x576x256, .f32⟩

abbrev bufTy : (tb : Table) → Fin (tcTables nBuf tb) → BufTy
  | .hbm, ⟨i, _⟩ => hbmTy i
  | _, _ => ⟨S8x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call2_v0 : Ref sig .tc := ⟨.hbm, 78, rfl⟩
abbrev main_call2_cst : Ref sig .tc := ⟨.hbm, 79, rfl⟩
abbrev main_call2_c : Ref sig .tc := ⟨.hbm, 80, rfl⟩
abbrev main_call2_v1_0 : Ref sig .tc := ⟨.hbm, 81, rfl⟩
abbrev main_v41 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_8 : Ref sig .tc := ⟨.hbm, 108, rfl⟩
abbrev main_v45 : Ref sig .tc := ⟨.hbm, 109, rfl⟩
abbrev main_cst_9 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_10 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_cst_11 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_cst_12 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_call4_v0 : Ref sig .tc := ⟨.hbm, 134, rfl⟩
abbrev main_call4_cst : Ref sig .tc := ⟨.hbm, 135, rfl⟩
abbrev main_call4_c : Ref sig .tc := ⟨.hbm, 136, rfl⟩
abbrev main_call4_v1_0 : Ref sig .tc := ⟨.hbm, 137, rfl⟩
abbrev main_v66 : Ref sig .tc := ⟨.hbm, 138, rfl⟩
abbrev main_call5_c : Ref sig .tc := ⟨.hbm, 139, rfl⟩
abbrev main_call5_v0 : Ref sig .tc := ⟨.hbm, 140, rfl⟩
abbrev main_call5_v1 : Ref sig .tc := ⟨.hbm, 141, rfl⟩
abbrev main_call5_c_0 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_v5 : Ref sig .tc := ⟨.hbm, 146, rfl⟩
abbrev main_call5_c_1 : Ref sig .tc := ⟨.hbm, 147, rfl⟩
abbrev main_call5_c_2 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_c_3 : Ref sig .tc := ⟨.hbm, 155, rfl⟩
abbrev main_call5_v12 : Ref sig .tc := ⟨.hbm, 156, rfl⟩
abbrev main_call5_v13 : Ref sig .tc := ⟨.hbm, 157, rfl⟩
abbrev main_call5_v14 : Ref sig .tc := ⟨.hbm, 158, rfl⟩
abbrev main_call5_cst : Ref sig .tc := ⟨.hbm, 159, rfl⟩
abbrev main_call5_v15 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_cst_13 : Ref sig .tc := ⟨.hbm, 164, rfl⟩
abbrev main_v70 : Ref sig .tc := ⟨.hbm, 165, rfl⟩
abbrev main_cst_14 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_cst_15 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_cst_16 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_cst_17 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_call6_v0 : Ref sig .tc := ⟨.hbm, 190, rfl⟩
abbrev main_call6_cst : Ref sig .tc := ⟨.hbm, 191, rfl⟩
abbrev main_call6_c : Ref sig .tc := ⟨.hbm, 192, rfl⟩
abbrev main_call6_v1_0 : Ref sig .tc := ⟨.hbm, 193, rfl⟩
abbrev main_v91 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v92 : Ref sig .tc := ⟨.hbm, 217, rfl⟩
abbrev main_v93 : Ref sig .tc := ⟨.hbm, 218, rfl⟩
abbrev main_v94 : Ref sig .tc := ⟨.hbm, 219, rfl⟩
abbrev main_cst_18 : Ref sig .tc := ⟨.hbm, 220, rfl⟩
abbrev main_v95 : Ref sig .tc := ⟨.hbm, 221, rfl⟩
abbrev main_cst_19 : Ref sig .tc := ⟨.hbm, 222, rfl⟩
abbrev main_v96 : Ref sig .tc := ⟨.hbm, 223, rfl⟩
abbrev main_v97 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_v101 : Ref sig .tc := ⟨.hbm, 228, rfl⟩
abbrev main_v102 : Ref sig .tc := ⟨.hbm, 229, rfl⟩
abbrev main_v103 : Ref sig .tc := ⟨.hbm, 230, rfl⟩
abbrev main_v104 : Ref sig .tc := ⟨.hbm, 231, rfl⟩
abbrev main_v105 : Ref sig .tc := ⟨.hbm, 232, rfl⟩
abbrev main_v106 : Ref sig .tc := ⟨.hbm, 233, rfl⟩
abbrev main_v107 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩

abbrev nD : Nat := 1
abbrev τ : Topo := Topo.v7x

variable {F : FTy → Type} [FloatOps F]
-- ==== Proof.RefOps.lean ====
/-
  The reference's operations as lists: one quantizer stage over a record of its buffers (the four stages differ in the
  buffers and in which codebook they slice), the two lines before the first stage, and the stack of indices and losses
  after the last. @main is these lists in order, so it runs to their fold.
-/
module

public import proofs.«01_k».proof.Proof.Gen.ReferenceIdeal
public import Idealize.ShloMosaic.Lib.StableHlo.Run
public import Idealize.ShloMosaic.Lib.StableHlo.RunRead
public import Idealize.ShloMosaic.Lib.StableHlo.RunHlo

@[expose] public section

noncomputable section

namespace Cert.ReferenceIdeal.Value

open Cert.ReferenceIdeal Cert.ReferenceIdeal.Gen Idealize.ShloMosaic Idealize.ShloMosaic.StableHlo Idealize.SL.Sem

variable {F : FTy → Type} [FloatOps F]

/-- The operations of one call of @argmin. -/
def argminOps (x : TRef sig ⟨S8x576x1024, .f32⟩) (φ : fn_argmin.Bufs) : List (HloOp τ sig (Elt F)) :=
  [ TRef.nullary φ.v0 (iotaInDim S8x576x1024 32 2),
    TRef.nullary φ.cst (constant S_ .f32 0x7F800000#32),
    TRef.nullary φ.c (constantI S_ 32 0#32),
    TRef.quaternary x φ.v0 φ.cst φ.c φ.v1_0 (fun x y u v j =>
      (Host.argReduce reducer_argmin_f32_i32 x y u v reducesTo_S8x576x1024_S8x576_d2 h_S_ j).1),
    TRef.quaternary x φ.v0 φ.cst φ.c φ.v1_1 (fun x y u v j =>
      (Host.argReduce reducer_argmin_f32_i32 x y u v reducesTo_S8x576x1024_S8x576_d2 h_S_ j).2) ]

/-- The operations of one call of @_take. -/
def takeOps (x : TRef sig ⟨S1024x256, .f32⟩) (i : TRef sig ⟨S8x576, .i32⟩) (φ : fn_take.Bufs) : List (HloOp τ sig (Elt F)) :=
  [ TRef.nullary φ.c (constantI S_ 32 0#32),
    TRef.unary φ.c φ.v0 (broadcastInDim S8x576 ![] bcast_S_S8x576),
    TRef.binary i φ.v0 φ.v1 (cmpi .slt),
    TRef.nullary φ.c_0 (constantI S_ 32 1024#32),
    TRef.unary φ.c_0 φ.v2 (broadcastInDim S8x576 ![] bcast_S_S8x576),
    TRef.binary i φ.v2 φ.v3 addi,
    TRef.ternary φ.v1 φ.v3 i φ.call0.v0 select,
    TRef.unary φ.call0.v0 φ.v5 (broadcastInDim S8x576x1 ![0, 1] bcast_S8x576_S8x576x1_0_1),
    TRef.nullary φ.c_1 (constantI S1 32 1023#32),
    TRef.nullary φ.c_2 (constantI S_ 32 0#32),
    TRef.unary φ.c_2 φ.v6 (broadcastInDim S8x576x1 ![] bcast_S_S8x576x1),
    TRef.binary φ.v5 φ.v6 φ.v7 (cmpi .sge),
    TRef.unary φ.c_1 φ.v8 (broadcastInDim S1x1x1 ![2] bcast_S1_S1x1x1_2),
    TRef.unary φ.v8 φ.v9 (broadcastInDim S8x576x1 ![0, 1, 2] bcast_S1x1x1_S8x576x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8x576x1_S8x576_d2 h_S_),
    TRef.binary x φ.v5 φ.v13 (fun x i => Host.gather gather_S1024x256_S8x576x1_S8x576x256_2_0_n_n_0_2_1256 x i),
    TRef.unary φ.v12 φ.v14 (broadcastInDim S8x576x256 ![0, 1] bcast_S8x576_S8x576x256_0_1),
    TRef.nullary φ.cst (constant S_ .f32 0x7FC00000#32),
    TRef.unary φ.cst φ.v15 (broadcastInDim S8x576x256 ![] bcast_S_S8x576x256),
    TRef.ternary φ.v14 φ.v13 φ.v15 φ.v16 select ]

/-- The buffers of one quantizer stage: its residual `r` and running sum `acc` on entry, and a buffer per value. -/
structure Stage where
  /-- the residual on entry -/
  r : TRef sig ⟨S8x576x256, .f32⟩
  /-- the running sum on entry -/
  acc : TRef sig ⟨S8x576x256, .f32⟩
  cb1 : TRef sig ⟨S1x1024x256, .f32⟩
  /-- the stage's codebook -/
  cb : TRef sig ⟨S1024x256, .f32⟩
  rr : TRef sig ⟨S8x576x256, .f32⟩
  z0 : TRef sig ⟨S_, .f32⟩
  rn : TRef sig ⟨S8x576, .f32⟩
  rnk : TRef sig ⟨S8x576x1, .f32⟩
  dot : TRef sig ⟨S8x576x1024, .f32⟩
  two : TRef sig ⟨S_, .f32⟩
  twos : TRef sig ⟨S8x576x1024, .f32⟩
  dot2 : TRef sig ⟨S8x576x1024, .f32⟩
  rnb : TRef sig ⟨S8x576x1024, .f32⟩
  sub : TRef sig ⟨S8x576x1024, .f32⟩
  cc : TRef sig ⟨S1024x256, .f32⟩
  z1 : TRef sig ⟨S_, .f32⟩
  cn : TRef sig ⟨S1024, .f32⟩
  cnk : TRef sig ⟨S1x1x1024, .f32⟩
  cnb : TRef sig ⟨S8x576x1024, .f32⟩
  /-- the distances -/
  dist : TRef sig ⟨S8x576x1024, .f32⟩
  /-- the call of @argmin; its second result is the stage's index -/
  am : fn_argmin.Bufs
  /-- the call of @_take; its result is the stage's quantized rows -/
  tk : fn_take.Bufs
  df : TRef sig ⟨S8x576x256, .f32⟩
  dd : TRef sig ⟨S8x576x256, .f32⟩
  z2 : TRef sig ⟨S_, .f32⟩
  sm : TRef sig ⟨S_, .f32⟩
  cnt : TRef sig ⟨S_, .f32⟩
  /-- the stage's loss -/
  loss : TRef sig ⟨S_, .f32⟩
  df2 : TRef sig ⟨S8x576x256, .f32⟩
  st : TRef sig ⟨S8x576x256, .f32⟩
  /-- the running sum on exit -/
  acc' : TRef sig ⟨S8x576x256, .f32⟩
  /-- the residual on exit -/
  r' : TRef sig ⟨S8x576x256, .f32⟩

/-- A stage's operations before its calls: codebook slice and distances. -/
def distOps (k : Nat) (hk : S4x1024x256.Slices ![k, 0, 0] S1x1024x256) (S : Stage) : List (HloOp τ sig (Elt F)) :=
  [ TRef.unary (.of main_arg1 : TRef sig ⟨S4x1024x256, .f32⟩) S.cb1 (extractStridedSlice S1x1024x256 ![k, 0, 0] · hk),
    TRef.reshape S.cb1 S.cb rfl shapeCasts_S1x1024x256_S1024x256,
    TRef.binary S.r S.r S.rr mulf,
    TRef.nullary S.z0 (constant S_ .f32 0x00000000#32),
    TRef.binary S.rr S.z0 S.rn (fun x v => Host.reduceAdd x v reducesTo_S8x576x256_S8x576_d2 h_S_),
    TRef.unary S.rn S.rnk (broadcastInDim S8x576x1 ![0, 1] bcast_S8x576_S8x576x1_0_1),
    TRef.binary S.r S.cb S.dot (fun l r => Host.dotGeneral dot_S8x576x256_S1024x256_S8x576x1024_2_1_01_0_n_n none l r),
    TRef.nullary S.two (constant S_ .f32 0x40000000#32),
    TRef.unary S.two S.twos (broadcastInDim S8x576x1024 ![] bcast_S_S8x576x1024),
    TRef.binary S.twos S.dot S.dot2 mulf,
    TRef.unary S.rnk S.rnb (broadcastInDim S8x576x1024 ![0, 1, 2] bcast_S8x576x1_S8x576x1024_0_1_2),
    TRef.binary S.rnb S.dot2 S.sub subf,
    TRef.binary S.cb S.cb S.cc mulf,
    TRef.nullary S.z1 (constant S_ .f32 0x00000000#32),
    TRef.binary S.cc S.z1 S.cn (fun x v => Host.reduceAdd x v reducesTo_S1024x256_S1024_d1 h_S_),
    TRef.unary S.cn S.cnk (broadcastInDim S1x1x1024 ![2] bcast_S1024_S1x1x1024_2),
    TRef.unary S.cnk S.cnb (broadcastInDim S8x576x1024 ![0, 1, 2] bcast_S1x1x1024_S8x576x1024_0_1_2),
    TRef.binary S.sub S.cnb S.dist addf ]

/-- A stage's operations after its calls: the loss, the running sum and the residual. -/
def restOps (S : Stage) : List (HloOp τ sig (Elt F)) :=
  [ TRef.binary S.tk.v16 S.r S.df subf,
    TRef.binary S.df S.df S.dd mulf,
    TRef.nullary S.z2 (constant S_ .f32 0x00000000#32),
    TRef.binary S.dd S.z2 S.sm (fun x v => Host.reduceAdd x v reducesTo_S8x576x256_S_d0_1_2 h_S_),
    TRef.nullary S.cnt (constant S_ .f32 0x49900000#32),
    TRef.binary S.sm S.cnt S.loss Host.divf,
    TRef.binary S.tk.v16 S.r S.df2 subf,
    TRef.binary S.r S.df2 S.st addf,
    TRef.binary S.acc S.st S.acc' addf,
    TRef.binary S.r S.tk.v16 S.r' subf ]

/-- A stage's operations through its two calls. -/
def callOps (k : Nat) (hk : S4x1024x256.Slices ![k, 0, 0] S1x1024x256) (S : Stage) : List (HloOp τ sig (Elt F)) :=
  distOps k hk S ++ (argminOps S.dist S.am ++ takeOps S.cb S.am.v1_1 S.tk)

/-- A stage's operations. -/
def stageOps (k : Nat) (hk : S4x1024x256.Slices ![k, 0, 0] S1x1024x256) (S : Stage) : List (HloOp τ sig (Elt F)) :=
  callOps k hk S ++ restOps S

/-- The first stage's buffers. -/
abbrev st0 : Stage where
  r := .of main_arg0
  acc := .of main_v0
  cb1 := .of main_v1
  cb := .of main_v2
  rr := .of main_v3
  z0 := .of main_cst_0
  rn := .of main_v4
  rnk := .of main_v5
  dot := .of main_v6
  two := .of main_cst_1
  twos := .of main_v7
  dot2 := .of main_v8
  rnb := .of main_v9
  sub := .of main_v10
  cc := .of main_v11
  z1 := .of main_cst_2
  cn := .of main_v12
  cnk := .of main_v13
  cnb := .of main_v14
  dist := .of main_v15
  am := main_call0
  tk := main_call1
  df := .of main_v18
  dd := .of main_v19
  z2 := .of main_cst_3
  sm := .of main_v20
  cnt := .of main_cst_4
  loss := .of main_v21
  df2 := .of main_v22
  st := .of main_v23
  acc' := .of main_v24
  r' := .of main_v25

/-- The second stage's buffers. -/
abbrev st1 : Stage where
  r := .of main_v25
  acc := .of main_v24
  cb1 := .of main_v26
  cb := .of main_v27
  rr := .of main_v28
  z0 := .of main_cst_5
  rn := .of main_v29
  rnk := .of main_v30
  dot := .of main_v31
  two := .of main_cst_6
  twos := .of main_v32
  dot2 := .of main_v33
  rnb := .of main_v34
  sub := .of main_v35
  cc := .of main_v36
  z1 := .of main_cst_7
  cn := .of main_v37
  cnk := .of main_v38
  cnb := .of main_v39
  dist := .of main_v40
  am := main_call2
  tk := main_call3
  df := .of main_v43
  dd := .of main_v44
  z2 := .of main_cst_8
  sm := .of main_v45
  cnt := .of main_cst_9
  loss := .of main_v46
  df2 := .of main_v47
  st := .of main_v48
  acc' := .of main_v49
  r' := .of main_v50

/-- The third stage's buffers. -/
abbrev st2 : Stage where
  r := .of main_v50
  acc := .of main_v49
  cb1 := .of main_v51
  cb := .of main_v52
  rr := .of main_v53
  z0 := .of main_cst_10
  rn := .of main_v54
  rnk := .of main_v55
  dot := .of main_v56
  two := .of main_cst_11
  twos := .of main_v57
  dot2 := .of main_v58
  rnb := .of main_v59
  sub := .of main_v60
  cc := .of main_v61
  z1 := .of main_cst_12
  cn := .of main_v62
  cnk := .of main_v63
  cnb := .of main_v64
  dist := .of main_v65
  am := main_call4
  tk := main_call5
  df := .of main_v68
  dd := .of main_v69
  z2 := .of main_cst_13
  sm := .of main_v70
  cnt := .of main_cst_14
  loss := .of main_v71
  df2 := .of main_v72
  st := .of main_v73
  acc' := .of main_v74
  r' := .of main_v75

/-- The fourth stage's buffers. -/
abbrev st3 : Stage where
  r := .of main_v75
  acc := .of main_v74
  cb1 := .of main_v76
  cb := .of main_v77
  rr := .of main_v78
  z0 := .of main_cst_15
  rn := .of main_v79
  rnk := .of main_v80
  dot := .of main_v81
  two := .of main_cst_16
  twos := .of main_v82
  dot2 := .of main_v83
  rnb := .of main_v84
  sub := .of main_v85
  cc := .of main_v86
  z1 := .of main_cst_17
  cn := .of main_v87
  cnk := .of main_v88
  cnb := .of main_v89
  dist := .of main_v90
  am := main_call6
  tk := main_call7
  df := .of main_v93
  dd := .of main_v94
  z2 := .of main_cst_18
  sm := .of main_v95
  cnt := .of main_cst_19
  loss := .of main_v96
  df2 := .of main_v97
  st := .of main_v98
  acc' := .of main_v99
  r' := .of main_v100

/-- The zero the running sum starts from. -/
def initOps : List (HloOp τ sig (Elt F)) :=
  [ nullary main_cst (constant S_ .f32 0x00000000#32),
    unary main_cst main_v0 (broadcastInDim S8x576x256 ![] bcast_S_S8x576x256) ]

/-- The four indices and the four losses stacked. -/
def tailOps : List (HloOp τ sig (Elt F)) :=
  [ unary main_v16 main_v101 (broadcastInDim S8x576x1 ![0, 1] bcast_S8x576_S8x576x1_0_1),
    unary main_v41 main_v102 (broadcastInDim S8x576x1 ![0, 1] bcast_S8x576_S8x576x1_0_1),
    unary main_v66 main_v103 (broadcastInDim S8x576x1 ![0, 1] bcast_S8x576_S8x576x1_0_1),
    unary main_v91 main_v104 (broadcastInDim S8x576x1 ![0, 1] bcast_S8x576_S8x576x1_0_1),
    nary ![main_v101, main_v102, main_v103, main_v104] main_v105 (fun u => (concatenate S8x576x4 2 [⟨S8x576x1, (u 0 : (⟨S8x576x1, .i32⟩ : BufTy).Contents (Elt F))⟩, ⟨S8x576x1, (u 1 : (⟨S8x576x1, .i32⟩ : BufTy).Contents (Elt F))⟩, ⟨S8x576x1, (u 2 : (⟨S8x576x1, .i32⟩ : BufTy).Contents (Elt F))⟩, ⟨S8x576x1, (u 3 : (⟨S8x576x1, .i32⟩ : BufTy).Contents (Elt F))⟩] concatenates_S8x576x1_S8x576x1_S8x576x1_S8x576x1_S8x576x4_d2 : (⟨S8x576x4, .i32⟩ : BufTy).Contents (Elt F))),
    unary main_v21 main_v106 (broadcastInDim S1 ![] bcast_S_S1),
    unary main_v46 main_v107 (broadcastInDim S1 ![] bcast_S_S1),
    unary main_v71 main_v108 (broadcastInDim S1 ![] bcast_S_S1),
    unary main_v96 main_v109 (broadcastInDim S1 ![] bcast_S_S1),
    nary ![main_v106, main_v107, main_v108, main_v109] main_v110 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))) ]

/-- @main's operations, in order. -/
def ops : List (HloOp τ sig (Elt F)) :=
  initOps ++ (stageOps 0 slices_S4x1024x256_S1x1024x256_0_0_0 st0 ++ (stageOps 1 slices_S4x1024x256_S1x1024x256_1_0_0 st1
    ++ (stageOps 2 slices_S4x1024x256_S1x1024x256_2_0_0 st2 ++ (stageOps 3 slices_S4x1024x256_S1x1024x256_3_0_0 st3
    ++ tailOps))))

set_option maxRecDepth 10000 in
/-- @main is the operations in order. -/
theorem main_eq (c : Dev nD) : main (F := F) c = seq ops := rfl

theorem scopedRefs_eq : (Finset.univ.filter fun b : Ref sig .tc => b.isScoped) = ∅ := by decide +kernel
theorem scopedSems_eq : (Finset.univ.filter fun sm : SemLoc sig => sm.isScoped .tc) = ∅ := by decide

end Cert.ReferenceIdeal.Value
-- ==== Proof.RefRun.lean ====
/-
  The reference's run: what one stage's operations leave in its four outputs, as functions of the residual, the running
  sum and the codebook array, stage by stage, and the three results of @main from them.
-/
module

public import proofs.«01_k».proof.Proof.RefOps

@[expose] public section

noncomputable section

namespace Cert.ReferenceIdeal.Value

open Cert.ReferenceIdeal Cert.ReferenceIdeal.Gen Idealize.ShloMosaic Idealize.ShloMosaic.StableHlo Idealize.SL.Sem

variable {F : FTy → Type} [FloatOps F]

/-- Codebook `k` of the four. -/
def cbV (k : Nat) (hk : S4x1024x256.Slices ![k, 0, 0] S1x1024x256) (cb : FVec F S4x1024x256 .f32) : FVec F S1024x256 .f32 :=
  shapeCast S1024x256 (extractStridedSlice S1x1024x256 ![k, 0, 0] cb hk) shapeCasts_S1x1024x256_S1024x256

/-- The distances of every row of the residual to every row of the codebook. -/
def distV (r : FVec F S8x576x256 .f32) (c : FVec F S1024x256 .f32) : FVec F S8x576x1024 .f32 :=
  addf
    (subf
      (broadcastInDim S8x576x1024 ![0, 1, 2] bcast_S8x576x1_S8x576x1024_0_1_2
        (broadcastInDim S8x576x1 ![0, 1] bcast_S8x576_S8x576x1_0_1
          (Host.reduceAdd (mulf r r) (constant S_ .f32 0x00000000#32) reducesTo_S8x576x256_S8x576_d2 h_S_)))
      (mulf (broadcastInDim S8x576x1024 ![] bcast_S_S8x576x1024 (constant S_ .f32 0x40000000#32))
        (Host.dotGeneral dot_S8x576x256_S1024x256_S8x576x1024_2_1_01_0_n_n none r c)))
    (broadcastInDim S8x576x1024 ![0, 1, 2] bcast_S1x1x1024_S8x576x1024_0_1_2
      (broadcastInDim S1x1x1024 ![2] bcast_S1024_S1x1x1024_2
        (Host.reduceAdd (mulf c c) (constant S_ .f32 0x00000000#32) reducesTo_S1024x256_S1024_d1 h_S_)))

/-- The index an arg-min gives, at any shapes. -/
def argIdx {φ : FTy} {s t u : Shape} {axes : List (Fin s.rank)} {β : Type} (f : F φ × β → F φ × β → F φ × β) (x : FVec F s φ)
    (y : s.Idx → β) (ix : u.Idx → F φ) (iy : u.Idx → β) (h : s.ReducesTo axes t) (hu : 0 < u.numel) : t.Idx → β :=
  fun j => (Host.argReduce f x y ix iy h hu j).2

/-- The index of the least distance of each row. -/
def idxV (d : FVec F S8x576x1024 .f32) : IVec S8x576 32 :=
  argIdx reducer_argmin_f32_i32 d (iotaInDim S8x576x1024 32 2) (constant S_ .f32 0x7F800000#32) (constantI S_ 32 0#32)
    reducesTo_S8x576x1024_S8x576_d2 h_S_

/-- The index as @_take reads it: a negative one counts from the end. -/
def takeIdx (i : IVec S8x576 32) : IVec S8x576x1 32 :=
  broadcastInDim S8x576x1 ![0, 1] bcast_S8x576_S8x576x1_0_1
    (select (cmpi .slt i (broadcastInDim S8x576 ![] bcast_S_S8x576 (constantI S_ 32 0#32)))
      (addi i (broadcastInDim S8x576 ![] bcast_S_S8x576 (constantI S_ 32 1024#32))) i)

/-- The codebook's row at each index, as @_take computes it: a fill value where the index is out of range. -/
def takeV (c : FVec F S1024x256 .f32) (i : IVec S8x576 32) : FVec F S8x576x256 .f32 :=
  select
    (broadcastInDim S8x576x256 ![0, 1] bcast_S8x576_S8x576x256_0_1
      (Host.reduce IntOp.andi
        (andi (cmpi .sge (takeIdx i) (broadcastInDim S8x576x1 ![] bcast_S_S8x576x1 (constantI S_ 32 0#32)))
          (cmpi .sle (takeIdx i) (broadcastInDim S8x576x1 ![0, 1, 2] bcast_S1x1x1_S8x576x1_0_1_2
            (broadcastInDim S1x1x1 ![2] bcast_S1_S1x1x1_2 (constantI S1 32 1023#32)))))
        (constantI S_ 1 1#1) reducesTo_S8x576x1_S8x576_d2 h_S_))
    (Host.gather gather_S1024x256_S8x576x1_S8x576x256_2_0_n_n_0_2_1256 c (takeIdx i))
    (broadcastInDim S8x576x256 ![] bcast_S_S8x576x256 (constant S_ .f32 0x7FC00000#32))

/-- The nearest codebook row of each row of the residual. -/
def quantV (r : FVec F S8x576x256 .f32) (c : FVec F S1024x256 .f32) : FVec F S8x576x256 .f32 := takeV c (idxV (distV r c))

/-- The mean squared distance of the residual to what it is quantized to. -/
def lossV (r : FVec F S8x576x256 .f32) (q : FVec F S8x576x256 .f32) : FVec F S_ .f32 :=
  Host.divf (Host.reduceAdd (mulf (subf q r) (subf q r)) (constant S_ .f32 0x00000000#32) reducesTo_S8x576x256_S_d0_1_2 h_S_)
    (constant S_ .f32 0x49900000#32)

/-- The running sum after a stage. -/
def accV (acc r q : FVec F S8x576x256 .f32) : FVec F S8x576x256 .f32 := addf acc (addf r (subf q r))

/-- The residual on entry to each stage, over the codebooks `cb`. -/
def resid (x : FVec F S8x576x256 .f32) (cb : Nat → FVec F S1024x256 .f32) : Nat → FVec F S8x576x256 .f32
  | 0 => x
  | k + 1 => subf (resid x cb k) (quantV (resid x cb k) (cb k))

/-- The running sum on entry to each stage. -/
def accum (x : FVec F S8x576x256 .f32) (cb : Nat → FVec F S1024x256 .f32) : Nat → FVec F S8x576x256 .f32
  | 0 => broadcastInDim S8x576x256 ![] bcast_S_S8x576x256 (constant S_ .f32 0x00000000#32)
  | k + 1 => accV (accum x cb k) (resid x cb k) (quantV (resid x cb k) (cb k))

/-- Each stage's index. -/
def index (x : FVec F S8x576x256 .f32) (cb : Nat → FVec F S1024x256 .f32) (k : Nat) : IVec S8x576 32 :=
  idxV (distV (resid x cb k) (cb k))

/-- Each stage's loss. -/
def loss (x : FVec F S8x576x256 .f32) (cb : Nat → FVec F S1024x256 .f32) (k : Nat) : FVec F S_ .f32 :=
  lossV (resid x cb k) (quantV (resid x cb k) (cb k))

/-- The reference's second result: the four indices side by side. -/
def stackIdx (i0 i1 i2 i3 : IVec S8x576 32) : IVec S8x576x4 32 :=
  concatenate S8x576x4 2
    [⟨S8x576x1, broadcastInDim S8x576x1 ![0, 1] bcast_S8x576_S8x576x1_0_1 i0⟩,
     ⟨S8x576x1, broadcastInDim S8x576x1 ![0, 1] bcast_S8x576_S8x576x1_0_1 i1⟩,
     ⟨S8x576x1, broadcastInDim S8x576x1 ![0, 1] bcast_S8x576_S8x576x1_0_1 i2⟩,
     ⟨S8x576x1, broadcastInDim S8x576x1 ![0, 1] bcast_S8x576_S8x576x1_0_1 i3⟩]
    concatenates_S8x576x1_S8x576x1_S8x576x1_S8x576x1_S8x576x4_d2

/-- The reference's third result: the four losses side by side. -/
def stackLoss (l0 l1 l2 l3 : FVec F S_ .f32) : FVec F S4 .f32 :=
  concatenate S4 0
    [⟨S1, broadcastInDim S1 ![] bcast_S_S1 l0⟩, ⟨S1, broadcastInDim S1 ![] bcast_S_S1 l1⟩,
     ⟨S1, broadcastInDim S1 ![] bcast_S_S1 l2⟩, ⟨S1, broadcastInDim S1 ![] bcast_S_S1 l3⟩]
    concatenates_S1_S1_S1_S1_S4_d0

/-- What the buffers hold after stages' operations: `V'` has the residual, running sum, index and loss of stage `k` in
    the buffers named, and the codebook array as `V` has it. -/
def Leaves (x : FVec F S8x576x256 .f32) (cb : Nat → FVec F S1024x256 .f32) (k : Nat)
    (i : IVec S8x576 32) (l : FVec F S_ .f32) (acc r : FVec F S8x576x256 .f32) : Prop :=
  i = index x cb k ∧ l = lossV (resid x cb k) (quantV (resid x cb k) (cb k))
    ∧ acc = accV (accum x cb k) (resid x cb k) (quantV (resid x cb k) (cb k))
    ∧ r = subf (resid x cb k) (quantV (resid x cb k) (cb k))

/-- Two lines' fold is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 8000

/-- The first stage leaves its index, loss, running sum and residual. -/
theorem stage0_leaves (x : FVec F S8x576x256 .f32) (cb : Nat → FVec F S1024x256 .f32) (V : Valuation τ sig (Elt F))
    (hr : V (Proc.devRef .tc main_arg0) = resid x cb 0) (ha : V (Proc.devRef .tc main_v0) = accum x cb 0)
    (hc : cbV 0 slices_S4x1024x256_S1x1024x256_0_0_0 (V (Proc.devRef .tc main_arg1)) = cb 0) :
    Leaves x cb 0 (after (stageOps 0 slices_S4x1024x256_S1x1024x256_0_0_0 st0) V (Proc.devRef .tc main_v16))
      (after (stageOps 0 slices_S4x1024x256_S1x1024x256_0_0_0 st0) V (Proc.devRef .tc main_v21))
      (after (stageOps 0 slices_S4x1024x256_S1x1024x256_0_0_0 st0) V (Proc.devRef .tc main_v24))
      (after (stageOps 0 slices_S4x1024x256_S1x1024x256_0_0_0 st0) V (Proc.devRef .tc main_v25)) := by
  have h1 : after (callOps 0 slices_S4x1024x256_S1x1024x256_0_0_0 st0) V (Proc.devRef .tc main_arg0) = resid x cb 0 := by rw [← hr]; after_reads_simp
  have h2 : after (callOps 0 slices_S4x1024x256_S1x1024x256_0_0_0 st0) V (Proc.devRef .tc main_v0) = accum x cb 0 := by rw [← ha]; after_reads_simp
  have h3 : after (callOps 0 slices_S4x1024x256_S1x1024x256_0_0_0 st0) V (Proc.devRef .tc main_v16) = index x cb 0 := by
    unfold index; rw [← hr, ← hc]; after_reads_simp; rfl
  have h4 : after (callOps 0 slices_S4x1024x256_S1x1024x256_0_0_0 st0) V (Proc.devRef .tc main_v17) = quantV (resid x cb 0) (cb 0) := by
    rw [← hr, ← hc]; after_reads_simp; simp only [TRef.ofBuf_toBuf]; rfl
  unfold Leaves stageOps
  rw [after_append]
  rw [← h4, ← h3, ← h2, ← h1]
  generalize after (callOps 0 slices_S4x1024x256_S1x1024x256_0_0_0 st0) V = W
  refine ⟨?_, ?_, ?_, ?_⟩ <;> after_reads_simp <;> rfl

/-- The second stage leaves its index, loss, running sum and residual. -/
theorem stage1_leaves (x : FVec F S8x576x256 .f32) (cb : Nat → FVec F S1024x256 .f32) (V : Valuation τ sig (Elt F))
    (hr : V (Proc.devRef .tc main_v25) = resid x cb 1) (ha : V (Proc.devRef .tc main_v24) = accum x cb 1)
    (hc : cbV 1 slices_S4x1024x256_S1x1024x256_1_0_0 (V (Proc.devRef .tc main_arg1)) = cb 1) :
    Leaves x cb 1 (after (stageOps 1 slices_S4x1024x256_S1x1024x256_1_0_0 st1) V (Proc.devRef .tc main_v41))
      (after (stageOps 1 slices_S4x1024x256_S1x1024x256_1_0_0 st1) V (Proc.devRef .tc main_v46))
      (after (stageOps 1 slices_S4x1024x256_S1x1024x256_1_0_0 st1) V (Proc.devRef .tc main_v49))
      (after (stageOps 1 slices_S4x1024x256_S1x1024x256_1_0_0 st1) V (Proc.devRef .tc main_v50)) := by
  have h1 : after (callOps 1 slices_S4x1024x256_S1x1024x256_1_0_0 st1) V (Proc.devRef .tc main_v25) = resid x cb 1 := by rw [← hr]; after_reads_simp
  have h2 : after (callOps 1 slices_S4x1024x256_S1x1024x256_1_0_0 st1) V (Proc.devRef .tc main_v24) = accum x cb 1 := by rw [← ha]; after_reads_simp
  have h3 : after (callOps 1 slices_S4x1024x256_S1x1024x256_1_0_0 st1) V (Proc.devRef .tc main_v41) = index x cb 1 := by
    unfold index; rw [← hr, ← hc]; after_reads_simp; rfl
  have h4 : after (callOps 1 slices_S4x1024x256_S1x1024x256_1_0_0 st1) V (Proc.devRef .tc main_v42) = quantV (resid x cb 1) (cb 1) := by
    rw [← hr, ← hc]; after_reads_simp; simp only [TRef.ofBuf_toBuf]; rfl
  unfold Leaves stageOps
  rw [after_append]
  rw [← h4, ← h3, ← h2, ← h1]
  generalize after (callOps 1 slices_S4x1024x256_S1x1024x256_1_0_0 st1) V = W
  refine ⟨?_, ?_, ?_, ?_⟩ <;> after_reads_simp <;> rfl

/-- The third stage leaves its index, loss, running sum and residual. -/
theorem stage2_leaves (x : FVec F S8x576x256 .f32) (cb : Nat → FVec F S1024x256 .f32) (V : Valuation τ sig (Elt F))
    (hr : V (Proc.devRef .tc main_v50) = resid x cb 2) (ha : V (Proc.devRef .tc main_v49) = accum x cb 2)
    (hc : cbV 2 slices_S4x1024x256_S1x1024x256_2_0_0 (V (Proc.devRef .tc main_arg1)) = cb 2) :
    Leaves x cb 2 (after (stageOps 2 slices_S4x1024x256_S1x1024x256_2_0_0 st2) V (Proc.devRef .tc main_v66))
      (after (stageOps 2 slices_S4x1024x256_S1x1024x256_2_0_0 st2) V (Proc.devRef .tc main_v71))
      (after (stageOps 2 slices_S4x1024x256_S1x1024x256_2_0_0 st2) V (Proc.devRef .tc main_v74))
      (after (stageOps 2 slices_S4x1024x256_S1x1024x256_2_0_0 st2) V (Proc.devRef .tc main_v75)) := by
  have h1 : after (callOps 2 slices_S4x1024x256_S1x1024x256_2_0_0 st2) V (Proc.devRef .tc main_v50) = resid x cb 2 := by rw [← hr]; after_reads_simp
  have h2 : after (callOps 2 slices_S4x1024x256_S1x1024x256_2_0_0 st2) V (Proc.devRef .tc main_v49) = accum x cb 2 := by rw [← ha]; after_reads_simp
  have h3 : after (callOps 2 slices_S4x1024x256_S1x1024x256_2_0_0 st2) V (Proc.devRef .tc main_v66) = index x cb 2 := by
    unfold index; rw [← hr, ← hc]; after_reads_simp; rfl
  have h4 : after (callOps 2 slices_S4x1024x256_S1x1024x256_2_0_0 st2) V (Proc.devRef .tc main_v67) = quantV (resid x cb 2) (cb 2) := by
    rw [← hr, ← hc]; after_reads_simp; simp only [TRef.ofBuf_toBuf]; rfl
  unfold Leaves stageOps
  rw [after_append]
  rw [← h4, ← h3, ← h2, ← h1]
  generalize after (callOps 2 slices_S4x1024x256_S1x1024x256_2_0_0 st2) V = W
  refine ⟨?_, ?_, ?_, ?_⟩ <;> after_reads_simp <;> rfl

/-- The fourth stage leaves its index, loss, running sum and residual. -/
theorem stage3_leaves (x : FVec F S8x576x256 .f32) (cb : Nat → FVec F S1024x256 .f32) (V : Valuation τ sig (Elt F))
    (hr : V (Proc.devRef .tc main_v75) = resid x cb 3) (ha : V (Proc.devRef .tc main_v74) = accum x cb 3)
    (hc : cbV 3 slices_S4x1024x256_S1x1024x256_3_0_0 (V (Proc.devRef .tc main_arg1)) = cb 3) :
    Leaves x cb 3 (after (stageOps 3 slices_S4x1024x256_S1x1024x256_3_0_0 st3) V (Proc.devRef .tc main_v91))
      (after (stageOps 3 slices_S4x1024x256_S1x1024x256_3_0_0 st3) V (Proc.devRef .tc main_v96))
      (after (stageOps 3 slices_S4x1024x256_S1x1024x256_3_0_0 st3) V (Proc.devRef .tc main_v99))
      (after (stageOps 3 slices_S4x1024x256_S1x1024x256_3_0_0 st3) V (Proc.devRef .tc main_v100)) := by
  have h1 : after (callOps 3 slices_S4x1024x256_S1x1024x256_3_0_0 st3) V (Proc.devRef .tc main_v75) = resid x cb 3 := by rw [← hr]; after_reads_simp
  have h2 : after (callOps 3 slices_S4x1024x256_S1x1024x256_3_0_0 st3) V (Proc.devRef .tc main_v74) = accum x cb 3 := by rw [← ha]; after_reads_simp
  have h3 : after (callOps 3 slices_S4x1024x256_S1x1024x256_3_0_0 st3) V (Proc.devRef .tc main_v91) = index x cb 3 := by
    unfold index; rw [← hr, ← hc]; after_reads_simp; rfl
  have h4 : after (callOps 3 slices_S4x1024x256_S1x1024x256_3_0_0 st3) V (Proc.devRef .tc main_v92) = quantV (resid x cb 3) (cb 3) := by
    rw [← hr, ← hc]; after_reads_simp; simp only [TRef.ofBuf_toBuf]; rfl
  unfold Leaves stageOps
  rw [after_append]
  rw [← h4, ← h3, ← h2, ← h1]
  generalize after (callOps 3 slices_S4x1024x256_S1x1024x256_3_0_0 st3) V = W
  refine ⟨?_, ?_, ?_, ?_⟩ <;> after_reads_simp <;> rfl

end Cert.ReferenceIdeal.Value
-- ==== Proof.RefResult.lean ====
/-
  The reference's run: it terminates with the running sum, the indices and the losses after four stages in its three
  results, its arguments unchanged.
-/
module

public import proofs.«01_k».proof.Proof.RefRun

@[expose] public section

noncomputable section

namespace Cert.ReferenceIdeal.Value

open Cert.ReferenceIdeal Cert.ReferenceIdeal.Gen Idealize.ShloMosaic Idealize.ShloMosaic.StableHlo Idealize.SL.Sem

variable {F : FTy → Type} [FloatOps F]

set_option maxRecDepth 8000

/-- Every operation works on the TensorCore's buffers. -/
theorem ops_sub : (ops : List (HloOp τ sig (Elt F))).Forall fun op => op.bufs ⊆ tcRefs τ sig := by
  simp [ops, initOps, stageOps, callOps, distOps, argminOps, takeOps, restOps, tailOps, List.forall_append]

/-- No operation leaves its result open. -/
theorem ops_fresh : ∀ op ∈ (ops : List (HloOp τ sig (Elt F))), op.fresh = ∅ := by
  rw [← List.forall_iff_forall_mem]
  simp [ops, initOps, stageOps, callOps, distOps, argminOps, takeOps, restOps, tailOps, List.forall_append]
  and_intros <;> rfl

/-- The four codebooks of the codebook array (the fourth again past it, which no stage reads). -/
def books (cb : FVec F S4x1024x256 .f32) : Nat → FVec F S1024x256 .f32
  | 0 => cbV 0 slices_S4x1024x256_S1x1024x256_0_0_0 cb
  | 1 => cbV 1 slices_S4x1024x256_S1x1024x256_1_0_0 cb
  | 2 => cbV 2 slices_S4x1024x256_S1x1024x256_2_0_0 cb
  | _ => cbV 3 slices_S4x1024x256_S1x1024x256_3_0_0 cb

/-- What @main's line leaves in its three results and its two arguments. -/
theorem after_ops (V : Valuation τ sig (Elt F)) (x : FVec F S8x576x256 .f32) (C : FVec F S4x1024x256 .f32)
    (hx : V (Proc.devRef .tc main_arg0) = x) (hC : V (Proc.devRef .tc main_arg1) = C) :
    after ops V (Proc.devRef .tc main_v99) = accum x (books C) 4
    ∧ after ops V (Proc.devRef .tc main_v105)
        = stackIdx (index x (books C) 0) (index x (books C) 1) (index x (books C) 2) (index x (books C) 3)
    ∧ after ops V (Proc.devRef .tc main_v110)
        = stackLoss (loss x (books C) 0) (loss x (books C) 1) (loss x (books C) 2) (loss x (books C) 3)
    ∧ after ops V (Proc.devRef .tc main_arg0) = x ∧ after ops V (Proc.devRef .tc main_arg1) = C := by
  unfold ops
  simp only [after_append]
  have x0 : after initOps V (Proc.devRef .tc main_arg0) = x := by rw [← hx]; after_reads_simp
  have a0 : after initOps V (Proc.devRef .tc main_v0) = accum x (books C) 0 := by after_reads_simp; rfl
  have c0 : after initOps V (Proc.devRef .tc main_arg1) = C := by rw [← hC]; after_reads_simp
  generalize after initOps V = V0 at *
  obtain ⟨i0, l0, a1, r1⟩ := stage0_leaves x (books C) V0 x0 a0 (by rw [c0]; rfl)
  have x1 : after (stageOps 0 slices_S4x1024x256_S1x1024x256_0_0_0 st0) V0 (Proc.devRef .tc main_arg0) = x := by rw [← x0]; after_reads_simp
  have c1 : after (stageOps 0 slices_S4x1024x256_S1x1024x256_0_0_0 st0) V0 (Proc.devRef .tc main_arg1) = C := by rw [← c0]; after_reads_simp
  generalize after (stageOps 0 slices_S4x1024x256_S1x1024x256_0_0_0 st0) V0 = V1 at *
  obtain ⟨i1, l1, a2, r2⟩ := stage1_leaves x (books C) V1 r1 a1 (by rw [c1]; rfl)
  have x2 : after (stageOps 1 slices_S4x1024x256_S1x1024x256_1_0_0 st1) V1 (Proc.devRef .tc main_arg0) = x := by rw [← x1]; after_reads_simp
  have c2 : after (stageOps 1 slices_S4x1024x256_S1x1024x256_1_0_0 st1) V1 (Proc.devRef .tc main_arg1) = C := by rw [← c1]; after_reads_simp
  have i0' : after (stageOps 1 slices_S4x1024x256_S1x1024x256_1_0_0 st1) V1 (Proc.devRef .tc main_v16) = index x (books C) 0 := by rw [← i0]; after_reads_simp
  have l0' : after (stageOps 1 slices_S4x1024x256_S1x1024x256_1_0_0 st1) V1 (Proc.devRef .tc main_v21) = loss x (books C) 0 := by refine .trans ?_ l0; after_reads_simp
  generalize after (stageOps 1 slices_S4x1024x256_S1x1024x256_1_0_0 st1) V1 = V2 at *
  obtain ⟨i2, l2, a3, r3⟩ := stage2_leaves x (books C) V2 r2 a2 (by rw [c2]; rfl)
  have x3 : after (stageOps 2 slices_S4x1024x256_S1x1024x256_2_0_0 st2) V2 (Proc.devRef .tc main_arg0) = x := by rw [← x2]; after_reads_simp
  have c3 : after (stageOps 2 slices_S4x1024x256_S1x1024x256_2_0_0 st2) V2 (Proc.devRef .tc main_arg1) = C := by rw [← c2]; after_reads_simp
  have i0'' : after (stageOps 2 slices_S4x1024x256_S1x1024x256_2_0_0 st2) V2 (Proc.devRef .tc main_v16) = index x (books C) 0 := by rw [← i0']; after_reads_simp
  have l0'' : after (stageOps 2 slices_S4x1024x256_S1x1024x256_2_0_0 st2) V2 (Proc.devRef .tc main_v21) = loss x (books C) 0 := by refine .trans ?_ l0'; after_reads_simp
  have i1' : after (stageOps 2 slices_S4x1024x256_S1x1024x256_2_0_0 st2) V2 (Proc.devRef .tc main_v41) = index x (books C) 1 := by rw [← i1]; after_reads_simp
  have l1' : after (stageOps 2 slices_S4x1024x256_S1x1024x256_2_0_0 st2) V2 (Proc.devRef .tc main_v46) = loss x (books C) 1 := by refine .trans ?_ l1; after_reads_simp
  generalize after (stageOps 2 slices_S4x1024x256_S1x1024x256_2_0_0 st2) V2 = V3 at *
  obtain ⟨i3, l3, a4, r4⟩ := stage3_leaves x (books C) V3 r3 a3 (by rw [c3]; rfl)
  have x4 : after (stageOps 3 slices_S4x1024x256_S1x1024x256_3_0_0 st3) V3 (Proc.devRef .tc main_arg0) = x := by rw [← x3]; after_reads_simp
  have c4 : after (stageOps 3 slices_S4x1024x256_S1x1024x256_3_0_0 st3) V3 (Proc.devRef .tc main_arg1) = C := by rw [← c3]; after_reads_simp
  have i0''' : after (stageOps 3 slices_S4x1024x256_S1x1024x256_3_0_0 st3) V3 (Proc.devRef .tc main_v16) = index x (books C) 0 := by rw [← i0'']; after_reads_simp
  have l0''' : after (stageOps 3 slices_S4x1024x256_S1x1024x256_3_0_0 st3) V3 (Proc.devRef .tc main_v21) = loss x (books C) 0 := by refine .trans ?_ l0''; after_reads_simp
  have i1'' : after (stageOps 3 slices_S4x1024x256_S1x1024x256_3_0_0 st3) V3 (Proc.devRef .tc main_v41) = index x (books C) 1 := by rw [← i1']; after_reads_simp
  have l1'' : after (stageOps 3 slices_S4x1024x256_S1x1024x256_3_0_0 st3) V3 (Proc.devRef .tc main_v46) = loss x (books C) 1 := by refine .trans ?_ l1'; after_reads_simp
  have i2' : after (stageOps 3 slices_S4x1024x256_S1x1024x256_3_0_0 st3) V3 (Proc.devRef .tc main_v66) = index x (books C) 2 := by rw [← i2]; after_reads_simp
  have l2' : after (stageOps 3 slices_S4x1024x256_S1x1024x256_3_0_0 st3) V3 (Proc.devRef .tc main_v71) = loss x (books C) 2 := by refine .trans ?_ l2; after_reads_simp
  generalize after (stageOps 3 slices_S4x1024x256_S1x1024x256_3_0_0 st3) V3 = V4 at *
  refine ⟨?_, ?_, ?_, ?_, ?_⟩
  · refine .trans ?_ a4; unfold tailOps; after_reads_simp
  · rw [← i0''', ← i1'', ← i2', ← i3]; after_reads_simp; rfl
  · rw [← l0''', ← l1'', ← l2', show loss x (books C) 3 = _ from l3.symm]; after_reads_simp; rfl
  · rw [← x4]; after_reads_simp
  · rw [← c4]; after_reads_simp

/-- The reference runs: its three results, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99)
        = accum (m ((c.tc : Thread nD τ).loc main_arg0)) (books (m ((c.tc : Thread nD τ).loc main_arg1))) 4
      ∧ r.2.mem ((c.tc : Thread nD τ).loc main_v105)
        = (let f := index (m ((c.tc : Thread nD τ).loc main_arg0)) (books (m ((c.tc : Thread nD τ).loc main_arg1)))
           stackIdx (f 0) (f 1) (f 2) (f 3))
      ∧ r.2.mem ((c.tc : Thread nD τ).loc main_v110)
        = (let f := loss (m ((c.tc : Thread nD τ).loc main_arg0)) (books (m ((c.tc : Thread nD τ).loc main_arg1)))
           stackLoss (f 0) (f 1) (f 2) (f 3))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_)
    (run_seq scopedRefs_eq scopedSems_eq defs main (fun _ => ops) main_eq (fun _ => ops_sub) m ρ (fun _ => ops_fresh))
  obtain ⟨h0, h1, h2, h3, h4⟩ := after_ops (launchContents m c) _ _ rfl rfl
  exact ⟨(h c main_v99).trans h0, (h c main_v105).trans h1, (h c main_v110).trans h2, (h c main_arg0).trans h3,
    (h c main_arg1).trans h4⟩

/-- The reference has no semaphore. -/
theorem noSem (s : SemLoc sig) : ¬ True := by
  have h : (Finset.univ : Finset (SemLoc sig)) = ∅ := by decide
  have hs := Finset.mem_univ s
  rw [h] at hs
  simp at hs

/-- The reference runs, its arguments unchanged and every semaphore counter at zero (it declares none). -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 := by
  refine θ_run_mono (run m ρ) fun r h => ⟨fun c => (h c).2.2.2, ?_⟩
  funext s
  exact absurd trivial (noSem s.2)

end Cert.ReferenceIdeal.Value
-- ==== Proof.Spec.lean ====
/-
  The mathematics of one stage, on one row of extended reals: the distances of a row to the rows of a codebook, the
  first index of the least one, and the row's residual. On finite rows the kernel's rearrangement of the distance equals
  the reference's, and a search by least value then least matching index finds the same row.
-/
module

public import Idealize.ShloMosaic.Lib.Pointwise

@[expose] public section

noncomputable section

namespace Cert.Spec

open Idealize.ShloMosaic

/-- Every entry of `v` is a real number. -/
def Fine {ι : Type} (v : ι → EReal) : Prop := ∃ w : ι → ℝ, v = fun i => (w i : EReal)

/-- A family is fine when each entry is a real number. -/
theorem Fine.of {ι : Type} {v : ι → EReal} (h : ∀ i, ∃ w : ℝ, v i = (w : EReal)) : Fine v :=
  ⟨fun i => (h i).choose, funext fun i => (h i).choose_spec⟩

/-- A fine family read along a map is fine. -/
theorem Fine.comp {ι κ : Type} {v : ι → EReal} (h : Fine v) (f : κ → ι) : Fine fun k => v (f k) := by
  obtain ⟨w, rfl⟩ := h; exact ⟨fun k => w (f k), rfl⟩

/-- The difference of fine families is fine. -/
theorem Fine.sub {ι : Type} {v w : ι → EReal} (hv : Fine v) (hw : Fine w) : Fine fun i => v i - w i := by
  obtain ⟨a, rfl⟩ := hv; obtain ⟨b, rfl⟩ := hw
  exact ⟨fun i => a i - b i, funext fun i => (EReal.coe_sub _ _).symm⟩

/-- A real number minus itself is zero. -/
theorem Fine.sub_self {ι : Type} {v : ι → EReal} (hv : Fine v) (i : ι) : v i - v i = 0 := by
  obtain ⟨a, rfl⟩ := hv
  rw [← EReal.coe_sub, _root_.sub_self, EReal.coe_zero]

/-- A sum of real numbers, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The squared distance of a row to row `k` of a codebook, as the reference writes it. -/
def dist (r : Fin 256 → EReal) (c : Fin 1024 → Fin 256 → EReal) (k : Fin 1024) : EReal :=
  (∑ d, r d * r d - 2 * ∑ d, r d * c k d) + ∑ d, c k d * c k d

/-- On fine rows the distance is a real number. -/
theorem dist_fine {r : Fin 256 → EReal} {c : Fin 1024 → Fin 256 → EReal} (hr : Fine r) (hc : ∀ k, Fine (c k)) :
    Fine (dist r c) := by
  obtain ⟨a, rfl⟩ := hr
  refine Fine.of fun k => ?_
  obtain ⟨b, hb⟩ := hc k
  refine ⟨(∑ d, a d * a d - 2 * ∑ d, a d * b d) + ∑ d, b d * b d, ?_⟩
  unfold dist
  rw [hb]
  simp only [← EReal.coe_mul, coe_sum, show (2 : EReal) = ((2 : ℝ) : EReal) from rfl, ← EReal.coe_sub, ← EReal.coe_add]

/-- On fine rows the kernel's distance, in which the row is multiplied by `-2` before the product, is the same. -/
theorem dist_scaled {r : Fin 256 → EReal} {c : Fin 1024 → Fin 256 → EReal} (hr : Fine r) (hc : ∀ k, Fine (c k)) (k : Fin 1024) :
    (∑ d, r d * r d + ∑ d, r d * (-2) * c k d) + ∑ d, c k d * c k d = dist r c k := by
  obtain ⟨a, rfl⟩ := hr
  obtain ⟨b, hb⟩ := hc k
  unfold dist
  rw [hb]
  simp only [← EReal.coe_mul, coe_sum, show (2 : EReal) = ((2 : ℝ) : EReal) from rfl, ← EReal.coe_neg, ← EReal.coe_sub,
    ← EReal.coe_add]
  congr 2
  rw [sub_eq_add_neg, Finset.mul_sum, ← Finset.sum_neg_distrib]
  congr 1
  exact Finset.sum_congr rfl fun d _ => by ring

/-- `n` is the first index at which `d` is least. -/
def First (d : Fin 1024 → EReal) (n : Fin 1024) : Prop := (∀ k, d n ≤ d k) ∧ ∀ k, d k = d n → n ≤ k

/-- There is one. -/
theorem exists_first (d : Fin 1024 → EReal) : ∃ n, First d n := by
  obtain ⟨m, -, hm⟩ := Finset.exists_min_image Finset.univ d ⟨0, Finset.mem_univ _⟩
  have hne : (Finset.univ.filter fun k => d k = d m).Nonempty := ⟨m, by simp⟩
  refine ⟨(Finset.univ.filter fun k => d k = d m).min' hne, ?_⟩
  have h := (Finset.mem_filter.mp (Finset.min'_mem _ hne)).2
  exact ⟨fun k => h.le.trans (hm k (Finset.mem_univ _)),
    fun k hk => Finset.min'_le _ k (Finset.mem_filter.mpr ⟨Finset.mem_univ k, hk.trans h⟩)⟩

/-- The first index at which `d` is least. -/
def first (d : Fin 1024 → EReal) : Fin 1024 := (exists_first d).choose

/-- It is one. -/
theorem first_spec (d : Fin 1024 → EReal) : First d (first d) := (exists_first d).choose_spec

/-- It is the only one. -/
theorem first_unique {d : Fin 1024 → EReal} {n : Fin 1024} (h : First d n) : n = first d :=
  le_antisymm (h.2 _ (le_antisymm ((first_spec d).1 _) (h.1 _))) ((first_spec d).2 _ (le_antisymm (h.1 _) ((first_spec d).1 _)))

/-- The least value is the value at the first least index. -/
theorem fold_min_eq (d : Fin 1024 → EReal) : Finset.univ.fold min ⊤ d = d (first d) :=
  le_antisymm (Finset.fold_min_le _ |>.mpr (.inr ⟨_, Finset.mem_univ _, le_rfl⟩))
    (Finset.le_fold_min _ |>.mpr ⟨le_top, fun k _ => (first_spec d).1 k⟩)

/-- The least of the indices, as numbers, whose value is the least, with `1024` at the others. -/
theorem fold_index_eq (d : Fin 1024 → EReal) :
    Finset.univ.fold min ⊤ (fun k : Fin 1024 => if d k = d (first d) then ((k.val : ℝ) : EReal) else ((1024 : ℝ) : EReal))
      = (((first d).val : ℝ) : EReal) := by
  refine le_antisymm (Finset.fold_min_le _ |>.mpr (.inr ⟨first d, Finset.mem_univ _, by rw [if_pos rfl]⟩))
    (Finset.le_fold_min _ |>.mpr ⟨le_top, fun k _ => ?_⟩)
  split
  · next h => exact EReal.coe_le_coe_iff.mpr (Nat.cast_le.mpr ((first_spec d).2 k h))
  · exact EReal.coe_le_coe_iff.mpr (by have := (first d).isLt; exact_mod_cast this.le)

/-- The index of the codebook row nearest to a row. -/
def near (r : Fin 256 → EReal) (c : Fin 1024 → Fin 256 → EReal) : Fin 1024 := first (dist r c)

/-- A sum over the codebook's rows in which the indicator of one row multiplies, is that row's term. -/
theorem sum_hot (n : Fin 1024) (v : Fin 1024 → EReal) :
    ∑ k, (if k = n then (1 : EReal) else 0) * v k = v n := by
  rw [Finset.sum_eq_single n (fun k _ hk => by rw [if_neg hk, zero_mul]) fun h => absurd (Finset.mem_univ _) h, if_pos rfl, one_mul]

/-! ### The constants -/

/-- The word of two. -/
theorem bits_two : Ideal.ofBits .f32 0x40000000#32 = 2 := by
  simp [Ideal.ofBits, Ideal.ieee]
  norm_num
  rw [← EReal.coe_mul, show (2 : EReal) = ((2 : ℝ) : EReal) from rfl]
  norm_num

/-- The word of minus two. -/
theorem bits_neg_two : Ideal.ofBits .f32 0xC0000000#32 = -2 := by
  simp [Ideal.ofBits, Ideal.ieee]
  norm_num
  rw [← EReal.coe_mul, show (2 : EReal) = ((2 : ℝ) : EReal) from rfl]
  norm_num

/-- The word of 1024. -/
theorem bits_1024 : Ideal.ofBits .f32 0x44800000#32 = ((1024 : ℝ) : EReal) := by
  simp [Ideal.ofBits, Ideal.ieee]
  norm_num
  rw [← EReal.coe_mul]
  norm_num

/-- The word of infinity. -/
theorem bits_top : Ideal.ofBits .f32 0x7F800000#32 = ⊤ := by
  simp [Ideal.ofBits, Ideal.ieee]

/-- Rounding an index to an integer gives it back. -/
theorem fptosi_index (n : Fin 1024) : Ideal.fptosi 32 ((n.val : ℝ) : EReal) = BitVec.ofNat 32 n.val := by
  have h := n.isLt
  unfold Ideal.fptosi
  rw [Ideal.toIntClamped_coe, if_pos (by positivity), Int.floor_natCast]
  rw [min_eq_right (by norm_num; omega), max_eq_right (by norm_num)]
  rfl

/-- An index's word reads, signed, as the index. -/
theorem toInt_index (n : Fin 1024) : ((BitVec.ofNat 32 n.val).toInt : ℝ) = (n.val : ℝ) := by
  have h := n.isLt
  rw [BitVec.toInt_eq_toNat_of_lt (by rw [BitVec.toNat_ofNat]; omega), BitVec.toNat_ofNat, Nat.mod_eq_of_lt (by omega), Int.cast_natCast]

end Cert.Spec
-- ==== Proof.Finite.lean ====
/-
  What the precondition says: every entry of the rows and of the codebooks is a real number.
-/
module

public import proofs.«01_k».proof.Defs
public import proofs.«01_k».proof.Proof.Spec
public import Idealize.ShloMosaic.Lib.Pointwise

@[expose] public section

noncomputable section

namespace Cert.Pre_finite

open Cert.Pre_finite Cert.Pre_finite.Facts Idealize.ShloMosaic Cert.Spec

/-- A conjunction of bits is set only where each is. -/
theorem all_of_fold {ι : Type} [DecidableEq ι] (f : ι → BitVec 1) (S : Finset ι) (h : S.fold IntOp.andi 1#1 f = 1#1) : ∀ k ∈ S, f k = 1#1 := by
  have and_one : ∀ a b : BitVec 1, IntOp.andi a b = 1#1 → a = 1#1 ∧ b = 1#1 := by decide
  induction S using Finset.induction_on with
  | empty => exact fun k hk => absurd hk (Finset.notMem_empty k)
  | insert a S ha ih =>
    rw [Finset.fold_insert ha] at h
    obtain ⟨h0, h1⟩ := and_one _ _ h
    intro k hk
    rcases Finset.mem_insert.mp hk with rfl | hk
    · exact h0
    · exact ih h1 k hk

/-- So at every index of a conjunction over a finite type. -/
theorem all_of_fold_univ {ι : Type} [Fintype ι] (f : ι → BitVec 1) (h : Finset.univ.fold IntOp.andi 1#1 f = 1#1) (k : ι) : f k = 1#1 := by
  classical exact all_of_fold f _ h k (Finset.mem_univ k)

/-- An extended real of absolute value below the top is a real number. -/
theorem real_of_abs_lt (a : Ideal .f32) (h : BitVec.ofBool (decide ((FloatOps.absf a : EReal) < Ideal.ofBits FTy.f32 0x7F800000#32)) = 1#1) :
    ∃ w : ℝ, (a : EReal) = (w : EReal) := by
  rw [bits_top, Ideal.absf_def] at h
  have h' : max (a : EReal) (-a) < ⊤ := by
    by_contra hc
    rw [decide_eq_false hc] at h
    exact absurd h (by decide)
  have h1 : (a : EReal) ≠ ⊤ := (lt_of_le_of_lt (le_max_left _ _) h').ne
  have h2 : (a : EReal) ≠ ⊥ := fun e => (lt_of_le_of_lt (le_max_right _ _) h').ne (by rw [e, EReal.neg_bot])
  exact ⟨(a : EReal).toReal, (EReal.coe_toReal h1 h2).symm⟩

variable [Facts]

/-- Where the precondition holds both arrays are fine. -/
theorem fine_of_fn (x : FVec Ideal S8x576x256 .f32) (b : FVec Ideal S4x1024x256 .f32) (h : fn (F := Ideal) x b = fun _ => 1#1) :
    Fine x ∧ Fine b := by
  have h0 := congrFun h (fun a => a.elim0)
  unfold fn at h0
  pointwise at h0
  have and_one : ∀ a b : BitVec 1, IntOp.andi a b = 1#1 → a = 1#1 ∧ b = 1#1 := by decide
  obtain ⟨hx, hb⟩ := and_one _ _ h0
  refine ⟨Fine.of fun i => ?_, Fine.of fun i => ?_⟩
  · rw [ValueIdx.eq_ix3 i]
    exact real_of_abs_lt _ (all_of_fold_univ _ hx (i 0, i 1, i 2))
  · rw [ValueIdx.eq_ix3 i]
    exact real_of_abs_lt _ (all_of_fold_univ _ hb (i 0, i 1, i 2))

end Cert.Pre_finite
-- ==== Proof.KStage.lean ====
/-
  What one block of the kernel computes, as functions of the block of rows and of the per-codebook tables.
-/
module

public import proofs.«01_k».proof.Proof.Gen.KernelIdeal.Frame
public import Idealize.ShloMosaic.Lib.Pipeline.Value

@[expose] public section

noncomputable section

namespace Cert.KernelIdeal.Block

open Cert.KernelIdeal Cert.KernelIdeal.Gen Idealize.ShloMosaic

variable {F : FTy → Type} [FloatOps F]

/-- What one stage reads besides the rows: the codebook, its rows' squared norms, and its three parts. -/
structure Table (F : FTy → Type) where
  /-- The codebook. -/
  book : Vec F S1x1024x256 .f32
  /-- The squared norms of its rows. -/
  norm : Vec F S1x1x1024 .f32
  /-- Its high part. -/
  hi : Vec F S1x1024x256 .bf16
  /-- Its middle part. -/
  mid : Vec F S1x1024x256 .bf16
  /-- Its low part. -/
  lo : Vec F S1x1024x256 .bf16

/-- The index, as a float, of the least distance of each row. -/
def best (T : Table F) (r : FVec F S1152x256 .f32) : FVec F S1152x1 .f32 :=
  k0_pay26 k0_pay13 r (mulf r (broadcast S1152x256 (Scalar.ofBits .f32 0xC0000000#32))) T.book T.norm

/-- The one-hot matrix of those indices. -/
def hot (T : Table F) (r : FVec F S1152x256 .f32) : IVec S1152x1024 32 :=
  extui 32 (cmpf .oeq (k0_pay13 (F := F)) (broadcastTo S1152x1024 (best T r) broadcasts_S1152x1_S1152x1024)) natLt_1_32

/-- The codebook's rows at those indices. -/
def quant (T : Table F) (r : FVec F S1152x256 .f32) : FVec F S1152x256 .f32 :=
  k0_pay19 (hot T r) T.hi T.mid T.lo

/-- The sum of the squares of a block's entries. -/
def sqsum (d : FVec F S1152x256 .f32) : F .f32 :=
  extractAt ![0, 0, 0] (shapeCast S1x1x1 (multiReduction .add [1, 2] S1
    (shapeCast S1x1152x256 (mulf d d) shapeCasts_S1152x256_S1x1152x256) 0x00000000#32 reduces_S1x1152x256_S1 (.inl rfl) rfl)
    shapeCasts_S1_S1x1x1) inpos_S1x1x1_p0_0_0

/-- The block of residuals before stage `k`. -/
def res (T : Nat → Table F) (x : FVec F S1152x256 .f32) : Nat → FVec F S1152x256 .f32
  | 0 => x
  | k + 1 => subf (res T x k) (quant (T k) (res T x k))

/-- The block of running sums before stage `k`. -/
def out (T : Nat → Table F) (x : FVec F S1152x256 .f32) : Nat → FVec F S1152x256 .f32
  | 0 => k0_pay12
  | k + 1 => addf (out T x k) (addf (res T x k) (subf (quant (T k) (res T x k)) (res T x k)))

/-- The block of indices before stage `k`: lane `q < k` holds stage `q`'s. -/
def idx (T : Nat → Table F) (x : FVec F S1152x256 .f32) : Nat → IVec S1152x128 32
  | 0 => k0_pay14
  | k + 1 => select (cmpi .eq (iota .tc S1152x128 32 [1] iota_S1152x128_d1_w32) (broadcast S1152x128 (BitVec.ofNat 32 k)))
      (broadcastTo S1152x128 (shapeCast S1152x1 (fptosi 32 (best (T k) (res T x k))) shapeCasts_S1152x1_S1152x1)
        broadcasts_S1152x1_S1152x128) (idx T x k)

/-- The block's losses before stage `k`: sublane 0, lane `q < k` holds stage `q`'s sum of squares. -/
def loss (T : Nat → Table F) (x : FVec F S1152x256 .f32) : Nat → FVec F S8x128 .f32
  | 0 => k0_pay15
  | k + 1 => addf (loss T x k)
      (select (andi (cmpi .eq (iota .tc S8x128 32 [1] iota_S8x128_d1_w32) (broadcast S8x128 (BitVec.ofNat 32 k)))
          (cmpi .eq (iota .tc S8x128 32 [0] iota_S8x128_d0_w32) (broadcast S8x128 0#32)))
        (broadcast S8x128 (sqsum (subf (quant (T k) (res T x k)) (res T x k))))
        (broadcast S8x128 (Scalar.ofBits .f32 0x00000000#32)))

/-- The tables of the four stages, from the codebooks and what the scratch arrays hold. -/
def tables (c : Vec F S4x1024x256 .f32) (h m l : Vec F S4x1024x256 .bf16) (n : Vec F S4x1x1024 .f32) : Nat → Table F
  | 0 => ⟨View.ld c (Rect.unit ![0, 0, 0] S1x1024x256.size inb_S4x1024x256_S1x1024x256_0_0_0),
      View.ld n (Rect.unit ![0, 0, 0] S1x1x1024.size inb_S4x1x1024_S1x1x1024_0_0_0),
      View.ld h (Rect.unit ![0, 0, 0] S1x1024x256.size inb_S4x1024x256_S1x1024x256_0_0_0),
      View.ld m (Rect.unit ![0, 0, 0] S1x1024x256.size inb_S4x1024x256_S1x1024x256_0_0_0),
      View.ld l (Rect.unit ![0, 0, 0] S1x1024x256.size inb_S4x1024x256_S1x1024x256_0_0_0)⟩
  | 1 => ⟨View.ld c (Rect.unit ![1, 0, 0] S1x1024x256.size inb_S4x1024x256_S1x1024x256_1_0_0),
      View.ld n (Rect.unit ![1, 0, 0] S1x1x1024.size inb_S4x1x1024_S1x1x1024_1_0_0),
      View.ld h (Rect.unit ![1, 0, 0] S1x1024x256.size inb_S4x1024x256_S1x1024x256_1_0_0),
      View.ld m (Rect.unit ![1, 0, 0] S1x1024x256.size inb_S4x1024x256_S1x1024x256_1_0_0),
      View.ld l (Rect.unit ![1, 0, 0] S1x1024x256.size inb_S4x1024x256_S1x1024x256_1_0_0)⟩
  | 2 => ⟨View.ld c (Rect.unit ![2, 0, 0] S1x1024x256.size inb_S4x1024x256_S1x1024x256_2_0_0),
      View.ld n (Rect.unit ![2, 0, 0] S1x1x1024.size inb_S4x1x1024_S1x1x1024_2_0_0),
      View.ld h (Rect.unit ![2, 0, 0] S1x1024x256.size inb_S4x1024x256_S1x1024x256_2_0_0),
      View.ld m (Rect.unit ![2, 0, 0] S1x1024x256.size inb_S4x1024x256_S1x1024x256_2_0_0),
      View.ld l (Rect.unit ![2, 0, 0] S1x1024x256.size inb_S4x1024x256_S1x1024x256_2_0_0)⟩
  | _ => ⟨View.ld c (Rect.unit ![3, 0, 0] S1x1024x256.size inb_S4x1024x256_S1x1024x256_3_0_0),
      View.ld n (Rect.unit ![3, 0, 0] S1x1x1024.size inb_S4x1x1024_S1x1x1024_3_0_0),
      View.ld h (Rect.unit ![3, 0, 0] S1x1024x256.size inb_S4x1024x256_S1x1024x256_3_0_0),
      View.ld m (Rect.unit ![3, 0, 0] S1x1024x256.size inb_S4x1024x256_S1x1024x256_3_0_0),
      View.ld l (Rect.unit ![3, 0, 0] S1x1024x256.size inb_S4x1024x256_S1x1024x256_3_0_0)⟩

/-- Zero offsets of rank two. -/
theorem hz2 : (![0, 0] : Fin 2 → Nat) = fun _ => 0 := funext fun a => by fin_cases a <;> rfl

/-- Zero offsets of rank three. -/
theorem hz3 : (![0, 0, 0] : Fin 3 → Nat) = fun _ => 0 := funext fun a => by fin_cases a <;> rfl

end Cert.KernelIdeal.Block
-- ==== Proof.KBlock.lean ====
/-
  The body's three outputs and its four scratch arrays at a grid point, in the words of the stages: at a point that
  fills the scratch arrays first (A), and at one that reads what an earlier point left in them (B).
-/
module

public import proofs.«01_k».proof.Proof.KStage

@[expose] public section

noncomputable section

namespace Cert.KernelIdeal.Block

open Cert.KernelIdeal Cert.KernelIdeal.Gen Idealize.ShloMosaic

variable {F : FTy → Type} [FloatOps F]

section Reads

variable {a2 : Memref sig .tc .vmem S4x1024x256 .f32} (h2 : a2.IsWhole)
  {a6 : Memref sig .tc .vmem S4x1024x256 .bf16} (h6 : a6.IsWhole) {a7 : Memref sig .tc .vmem S4x1024x256 .bf16} (h7 : a7.IsWhole)
  {a8 : Memref sig .tc .vmem S4x1024x256 .bf16} (h8 : a8.IsWhole) {a9 : Memref sig .tc .vmem S4x1x1024 .f32} (h9 : a9.IsWhole)

/-- The tables as the body of case B reads them out of the memrefs. -/
def readsB (x1 : Vec F S4x1024x256 .f32) (y0 y1 y2 : Vec F S4x1024x256 .bf16) (y3 : Vec F S4x1x1024 .f32) : Nat → Table F :=
  let row (off : Fin 3 → Nat) (hb) (hn) : Table F :=
    ⟨View.readAt (Elt F) a2.view (Rect.unit (s := S4x1024x256) off S1x1024x256.size hb).toLoadRect (h2.unread x1),
      View.readAt (Elt F) a9.view (Rect.unit (s := S4x1x1024) off S1x1x1024.size hn).toLoadRect (h9.unread y3),
      View.readAt (Elt F) a6.view (Rect.unit (s := S4x1024x256) off S1x1024x256.size hb).toLoadRect (h6.unread y0),
      View.readAt (Elt F) a7.view (Rect.unit (s := S4x1024x256) off S1x1024x256.size hb).toLoadRect (h7.unread y1),
      View.readAt (Elt F) a8.view (Rect.unit (s := S4x1024x256) off S1x1024x256.size hb).toLoadRect (h8.unread y2)⟩
  fun
  | 0 => row ![0, 0, 0] inb_S4x1024x256_S1x1024x256_0_0_0 inb_S4x1x1024_S1x1x1024_0_0_0
  | 1 => row ![1, 0, 0] inb_S4x1024x256_S1x1024x256_1_0_0 inb_S4x1x1024_S1x1x1024_1_0_0
  | 2 => row ![2, 0, 0] inb_S4x1024x256_S1x1024x256_2_0_0 inb_S4x1x1024_S1x1x1024_2_0_0
  | _ => row ![3, 0, 0] inb_S4x1024x256_S1x1024x256_3_0_0 inb_S4x1x1024_S1x1x1024_3_0_0

/-- They are the tables of what the memrefs hold. -/
theorem readsB_eq (x1 : Vec F S4x1024x256 .f32) (y0 y1 y2 : Vec F S4x1024x256 .bf16) (y3 : Vec F S4x1x1024 .f32) :
    readsB h2 h6 h7 h8 h9 x1 y0 y1 y2 y3 = tables x1 y0 y1 y2 y3 := by
  funext k
  unfold readsB
  rcases k with _ | _ | _ | _ <;> dsimp only <;>
    simp only [View.readAt_eq_ld, h2.read_unread, h6.read_unread, h7.read_unread, h8.read_unread, h9.read_unread] <;> rfl

/-- The whole codebook array as the body of case A loads it. -/
def wholeBook (x1 : Vec F S4x1024x256 .f32) : Vec F S4x1024x256 .f32 :=
  View.readAt (Elt F) a2.view (Rect.unit (s := S4x1024x256) ![0, 0, 0] S4x1024x256.size inb_S4x1024x256_S4x1024x256_0_0_0).toLoadRect
    (h2.unread x1)

/-- It is what the memref holds. -/
theorem wholeBook_eq (x1 : Vec F S4x1024x256 .f32) : wholeBook h2 x1 = x1 := by
  unfold wholeBook
  simp only [View.readAt_eq_ld, h2.read_unread, View.ld_unit_zero (S := S4x1024x256) hz3]

/-- The one store that fills a scratch array of codebook parts. -/
def fill {e : EltTy} (w : Vec F S4x1024x256 e) : List (View.Piece (Elt F) S4x1024x256 e) :=
  [⟨Rect.unit (s := S4x1024x256) ![0, 0, 0] S4x1024x256.size inb_S4x1024x256_S4x1024x256_0_0_0, w⟩]

/-- The one store that fills the scratch array of norms. -/
def fillN (w : Vec F S4x1x1024 .f32) : List (View.Piece (Elt F) S4x1x1024 .f32) :=
  [⟨Rect.unit (s := S4x1x1024) ![0, 0, 0] S4x1x1024.size inb_S4x1x1024_S4x1x1024_0_0_0, w⟩]

/-- A scratch array so filled holds what was stored. -/
theorem canon_fill {e : EltTy} (w : Vec F S4x1024x256 e) : View.canon (fill w) = w := by
  unfold fill; rw [View.canon_unit_zero hz3]

/-- So does the array of norms. -/
theorem canon_fillN (w : Vec F S4x1x1024 .f32) : View.canon (fillN w) = w := by
  unfold fillN; rw [View.canon_unit_zero hz3]

/-- A load out of a scratch array so filled is a load out of what was stored. -/
theorem readCov_fill {e : EltTy} (a : Memref sig .tc .vmem S4x1024x256 e) (w : Vec F S4x1024x256 e) (r : Rect S4x1024x256) :
    a.view.readCov (fill w) r.toLoadRect = View.ld w r := by
  rw [View.readCov_eq_canon', canon_fill]

/-- So is a load out of the array of norms. -/
theorem readCov_fillN (a : Memref sig .tc .vmem S4x1x1024 .f32) (w : Vec F S4x1x1024 .f32) (r : Rect S4x1x1024) :
    a.view.readCov (fillN w) r.toLoadRect = View.ld w r := by
  rw [View.readCov_eq_canon', canon_fillN]

variable (a6 a7 a8 a9) in
/-- The tables as the body of case A reads them: the scratch arrays just after it filled them. -/
def readsA (x1 : Vec F S4x1024x256 .f32) : Nat → Table F :=
  let row (off : Fin 3 → Nat) (hb) (hn) : Table F :=
    ⟨View.readAt (Elt F) a2.view (Rect.unit (s := S4x1024x256) off S1x1024x256.size hb).toLoadRect (h2.unread x1),
      a9.view.readCov (fillN (k0_pay10 (wholeBook h2 x1))) (Rect.unit (s := S4x1x1024) off S1x1x1024.size hn).toLoadRect,
      a6.view.readCov (fill (k0_pay7 (wholeBook h2 x1))) (Rect.unit (s := S4x1024x256) off S1x1024x256.size hb).toLoadRect,
      a7.view.readCov (fill (k0_pay8 (wholeBook h2 x1))) (Rect.unit (s := S4x1024x256) off S1x1024x256.size hb).toLoadRect,
      a8.view.readCov (fill (k0_pay9 (wholeBook h2 x1))) (Rect.unit (s := S4x1024x256) off S1x1024x256.size hb).toLoadRect⟩
  fun
  | 0 => row ![0, 0, 0] inb_S4x1024x256_S1x1024x256_0_0_0 inb_S4x1x1024_S1x1x1024_0_0_0
  | 1 => row ![1, 0, 0] inb_S4x1024x256_S1x1024x256_1_0_0 inb_S4x1x1024_S1x1x1024_1_0_0
  | 2 => row ![2, 0, 0] inb_S4x1024x256_S1x1024x256_2_0_0 inb_S4x1x1024_S1x1x1024_2_0_0
  | _ => row ![3, 0, 0] inb_S4x1024x256_S1x1024x256_3_0_0 inb_S4x1x1024_S1x1x1024_3_0_0

/-- The tables of a codebook array: its own parts and norms. -/
def own (x1 : Vec F S4x1024x256 .f32) : Nat → Table F :=
  tables x1 (k0_pay7 x1) (k0_pay8 x1) (k0_pay9 x1) (k0_pay10 x1)

/-- They are the tables of the codebook array and of its own parts and norms. -/
theorem readsA_eq (x1 : Vec F S4x1024x256 .f32) : readsA h2 a6 a7 a8 a9 x1 = own x1 := by
  funext k
  unfold readsA own
  rcases k with _ | _ | _ | _ <;> dsimp only <;>
    simp only [View.readAt_eq_ld, h2.read_unread, readCov_fill, readCov_fillN, wholeBook_eq] <;> rfl

/-- The block of rows as the body loads it is what the memref holds. -/
theorem rows_eq {a1 : Memref sig .tc .vmem S1152x256 .f32} (h1 : a1.IsWhole) (x0 : Vec F S1152x256 .f32) :
    k0_pay11 (View.readAt (Elt F) a1.view (Rect.unit (s := S1152x256) ![0, 0] S1152x256.size inb_S1152x256_S1152x256_0_0).toLoadRect
      (h1.unread x0)) = x0 := by
  unfold k0_pay11
  simp only [View.readAt_eq_ld, h1.read_unread, View.ld_unit_zero (S := S1152x256) hz2, shapeCast_self]

end Reads

variable (c : Dev nD) (i : grid0.Coords) {a1 : Memref sig .tc .vmem S1152x256 .f32} (h1 : a1.IsWhole)
  {a2 : Memref sig .tc .vmem S4x1024x256 .f32} (h2 : a2.IsWhole)
  {a3 : Memref sig .tc .vmem S1152x256 .f32} (h3 : a3.IsWhole) {a4 : Memref sig .tc .vmem S1152x128 .i32} (h4 : a4.IsWhole)
  {a5 : Memref sig .tc .vmem S1x8x128 .f32} (h5 : a5.IsWhole)
  {a6 : Memref sig .tc .vmem S4x1024x256 .bf16} (h6 : a6.IsWhole) {a7 : Memref sig .tc .vmem S4x1024x256 .bf16} (h7 : a7.IsWhole)
  {a8 : Memref sig .tc .vmem S4x1024x256 .bf16} (h8 : a8.IsWhole) {a9 : Memref sig .tc .vmem S4x1x1024 .f32} (h9 : a9.IsWhole)
  (x0 : Vec F S1152x256 .f32) (x1 : Vec F S4x1024x256 .f32) (y0 y1 y2 : Vec F S4x1024x256 .bf16) (y3 : Vec F S4x1x1024 .f32)

set_option maxRecDepth 16384 in
/-- Case B, the first output: the sums of the quantized rows. -/
theorem outB_eq (hc : ¬cond0_0 i) :
    out0_B_2 c i a1 h1 a2 h2 a3 h3 a4 h4 a5 h5 a6 h6 a7 h7 a8 h8 a9 h9 hc x0 x1 y0 y1 y2 y3 =
      out (tables x1 y0 y1 y2 y3) x0 4 := by
  unfold out0_B_2
  rw [View.read_writes_junk_eq_canon]
  unfold kernelRun0_B; dsimp only
  rw [View.canon_unit_zero hz2, ← readsB_eq h2 h6 h7 h8 h9]
  refine Eq.trans (b := out (readsB h2 h6 h7 h8 h9 x1 y0 y1 y2 y3) (kernelRun0_B.sl.r c a1 h1 x0) 4) (by sl_kernel_rfl) ?_
  rw [show kernelRun0_B.sl.r c a1 h1 x0 = x0 from rows_eq h1 x0]

set_option maxRecDepth 16384 in
/-- Case B, the second output: the indices. -/
theorem idxB_eq (hc : ¬cond0_0 i) :
    out0_B_3 c i a1 h1 a2 h2 a3 h3 a4 h4 a5 h5 a6 h6 a7 h7 a8 h8 a9 h9 hc x0 x1 y0 y1 y2 y3 =
      idx (tables x1 y0 y1 y2 y3) x0 4 := by
  unfold out0_B_3
  rw [View.read_writes_junk_eq_canon]
  unfold kernelRun0_B; dsimp only
  rw [View.canon_unit_zero hz2, ← readsB_eq h2 h6 h7 h8 h9]
  refine Eq.trans (b := idx (readsB h2 h6 h7 h8 h9 x1 y0 y1 y2 y3) (kernelRun0_B.sl.r c a1 h1 x0) 4) (by sl_kernel_rfl) ?_
  rw [show kernelRun0_B.sl.r c a1 h1 x0 = x0 from rows_eq h1 x0]

set_option maxRecDepth 16384 in
/-- Case B, the third output: the losses. -/
theorem lossB_eq (hc : ¬cond0_0 i) :
    out0_B_4 c i a1 h1 a2 h2 a3 h3 a4 h4 a5 h5 a6 h6 a7 h7 a8 h8 a9 h9 hc x0 x1 y0 y1 y2 y3 =
      shapeCast S1x8x128 (loss (tables x1 y0 y1 y2 y3) x0 4) shapeCasts_S8x128_S1x8x128 := by
  unfold out0_B_4
  rw [View.read_writes_junk_eq_canon]
  unfold kernelRun0_B; dsimp only
  rw [View.canon_unit_zero hz3, ← readsB_eq h2 h6 h7 h8 h9]
  refine Eq.trans (b := shapeCast S1x8x128 (loss (readsB h2 h6 h7 h8 h9 x1 y0 y1 y2 y3) (kernelRun0_B.sl.r c a1 h1 x0) 4) shapeCasts_S8x128_S1x8x128) (by sl_kernel_rfl) ?_
  rw [show kernelRun0_B.sl.r c a1 h1 x0 = x0 from rows_eq h1 x0]

set_option maxRecDepth 16384 in
/-- Case A, the first output: the sums of the quantized rows. -/
theorem outA_eq (hc : cond0_0 i) :
    out0_A_2 c i a1 h1 a2 h2 a3 h3 a4 h4 a5 h5 a6 h6 a7 h7 a8 h8 a9 h9 hc x0 x1 =
      out (own x1) x0 4 := by
  unfold out0_A_2
  rw [View.read_writes_junk_eq_canon]
  unfold kernelRun0_A; dsimp only
  rw [View.canon_unit_zero hz2, ← readsA_eq h2 (a6 := a6) (a7 := a7) (a8 := a8) (a9 := a9)]
  refine Eq.trans (b := out (readsA h2 a6 a7 a8 a9 x1) (kernelRun0_A.sl.r c a1 h1 x0) 4) (by sl_kernel_rfl) ?_
  rw [show kernelRun0_A.sl.r c a1 h1 x0 = x0 from rows_eq h1 x0]

set_option maxRecDepth 16384 in
/-- Case A, the second output: the indices. -/
theorem idxA_eq (hc : cond0_0 i) :
    out0_A_3 c i a1 h1 a2 h2 a3 h3 a4 h4 a5 h5 a6 h6 a7 h7 a8 h8 a9 h9 hc x0 x1 =
      idx (own x1) x0 4 := by
  unfold out0_A_3
  rw [View.read_writes_junk_eq_canon]
  unfold kernelRun0_A; dsimp only
  rw [View.canon_unit_zero hz2, ← readsA_eq h2 (a6 := a6) (a7 := a7) (a8 := a8) (a9 := a9)]
  refine Eq.trans (b := idx (readsA h2 a6 a7 a8 a9 x1) (kernelRun0_A.sl.r c a1 h1 x0) 4) (by sl_kernel_rfl) ?_
  rw [show kernelRun0_A.sl.r c a1 h1 x0 = x0 from rows_eq h1 x0]

set_option maxRecDepth 16384 in
/-- Case A, the third output: the losses. -/
theorem lossA_eq (hc : cond0_0 i) :
    out0_A_4 c i a1 h1 a2 h2 a3 h3 a4 h4 a5 h5 a6 h6 a7 h7 a8 h8 a9 h9 hc x0 x1 =
      shapeCast S1x8x128 (loss (own x1) x0 4) shapeCasts_S8x128_S1x8x128 := by
  unfold out0_A_4
  rw [View.read_writes_junk_eq_canon]
  unfold kernelRun0_A; dsimp only
  rw [View.canon_unit_zero hz3, ← readsA_eq h2 (a6 := a6) (a7 := a7) (a8 := a8) (a9 := a9)]
  refine Eq.trans (b := shapeCast S1x8x128 (loss (readsA h2 a6 a7 a8 a9 x1) (kernelRun0_A.sl.r c a1 h1 x0) 4) shapeCasts_S8x128_S1x8x128) (by sl_kernel_rfl) ?_
  rw [show kernelRun0_A.sl.r c a1 h1 x0 = x0 from rows_eq h1 x0]

set_option maxRecDepth 16384 in
/-- Case A, scratch array 0. -/
theorem scratch0_eq (hc : cond0_0 i) : sout0_A_0 c i a1 h1 a2 h2 a3 h3 a4 h4 a5 h5 a6 h6 a7 h7 a8 h8 a9 h9 hc x0 x1 = k0_pay7 x1 := by
  unfold sout0_A_0
  rw [View.read_writes_junk_eq_canon]
  refine Eq.trans (b := View.canon (fill (k0_pay7 (wholeBook h2 x1)))) (by sl_kernel_rfl) ?_
  rw [canon_fill, wholeBook_eq]

set_option maxRecDepth 16384 in
/-- Case A, scratch array 1. -/
theorem scratch1_eq (hc : cond0_0 i) : sout0_A_1 c i a1 h1 a2 h2 a3 h3 a4 h4 a5 h5 a6 h6 a7 h7 a8 h8 a9 h9 hc x0 x1 = k0_pay8 x1 := by
  unfold sout0_A_1
  rw [View.read_writes_junk_eq_canon]
  refine Eq.trans (b := View.canon (fill (k0_pay8 (wholeBook h2 x1)))) (by sl_kernel_rfl) ?_
  rw [canon_fill, wholeBook_eq]

set_option maxRecDepth 16384 in
/-- Case A, scratch array 2. -/
theorem scratch2_eq (hc : cond0_0 i) : sout0_A_2 c i a1 h1 a2 h2 a3 h3 a4 h4 a5 h5 a6 h6 a7 h7 a8 h8 a9 h9 hc x0 x1 = k0_pay9 x1 := by
  unfold sout0_A_2
  rw [View.read_writes_junk_eq_canon]
  refine Eq.trans (b := View.canon (fill (k0_pay9 (wholeBook h2 x1)))) (by sl_kernel_rfl) ?_
  rw [canon_fill, wholeBook_eq]

set_option maxRecDepth 16384 in
/-- Case A, scratch array 3. -/
theorem scratch3_eq (hc : cond0_0 i) : sout0_A_3 c i a1 h1 a2 h2 a3 h3 a4 h4 a5 h5 a6 h6 a7 h7 a8 h8 a9 h9 hc x0 x1 = k0_pay10 x1 := by
  unfold sout0_A_3
  rw [View.read_writes_junk_eq_canon]
  refine Eq.trans (b := View.canon (fillN (k0_pay10 (wholeBook h2 x1)))) (by sl_kernel_rfl) ?_
  rw [canon_fillN, wholeBook_eq]

end Cert.KernelIdeal.Block
-- ==== Proof.KArray.lean ====
/-
  The kernel's three result arrays after the region, block by block: what every grid point's body leaves, with the
  codebook array's own parts and norms in the scratch arrays at every point, and each array as the blocks together.
-/
module

public import proofs.«01_k».proof.Proof.KBlock
public import Idealize.ShloMosaic.Lib.Claim
public import Idealize.ShloMosaic.Lib.Pointwise

@[expose] public section

noncomputable section

namespace Cert.KernelIdeal.Block

open Cert.KernelIdeal Cert.KernelIdeal.Gen Idealize.ShloMosaic Idealize.ShloMosaic.TcCoe

variable {F : FTy → Type} [FloatOps F]
variable (m : (ℓ : Loc nD τ sig) → Buf (Elt F) ℓ) (c : Dev nD)

/-- The codebook array as launched. -/
abbrev argBooks : Vec F S4x1024x256 .f32 := m ((c : Thread nD τ).loc main_arg1)

/-- The rows as launched. -/
abbrev argRows : Vec F S8x576x256 .f32 := m ((c : Thread nD τ).loc main_arg0)

/-- The rows as one list of 4608. -/
def flat (x : Vec F S8x576x256 .f32) : Vec F S4608x256 .f32 := shapeCast S4608x256 x shapeCasts_S8x576x256_S4608x256

/-- Block `t` of the list of rows. -/
def blockRows (x : Vec F S4608x256 .f32) (t : Fin 4) : FVec F S1152x256 .f32 :=
  fun y => x (ix2 ⟨t.val * 1152 + (y 0).val, by have := (y 0).isLt; have : (y 0).val < 1152 := this; omega⟩ (y 1))

/-- A grid point's number. -/
def pt (t : Fin cfg0.N) : Fin 4 := ⟨t.val, lt_of_lt_of_eq t.isLt N_0⟩

/-- The codebook window's block is the whole array at every point. -/
theorem iblk_books (t : Fin cfg0.N) : iblk m c 1 t = argBooks m c := by
  have e : ∀ (a : Fin 3), win0_1.index t a = 0 :=
    (by decide +kernel : ∀ (t : Fin grid0.N) (a : Fin 3), win0_1.index t a = 0) t
  have h0 := e 0
  have h1 := e 1
  have h2 := e 2
  funext y
  show V m c (Pipeline.arrRef spec0 1) (((cfg0.win 1).blk t).view.emb y) = _
  rw [show V m c (Pipeline.arrRef spec0 1) = argBooks m c from V_main_arg1 m c]
  congr 1
  funext a
  apply Fin.ext
  match a with
  | ⟨0, _⟩ => show win0_1.index t (0 : Fin 3) * 4 + 1 * (y 0).val = (y 0).val; omega
  | ⟨1, _⟩ => show win0_1.index t (1 : Fin 3) * 1024 + 1 * (y 1).val = (y 1).val; omega
  | ⟨2, _⟩ => show win0_1.index t (2 : Fin 3) * 256 + 1 * (y 2).val = (y 2).val; omega

/-- The rows' window's block at a point is that block of the list of rows. -/
theorem iblk_rows (t : Fin cfg0.N) : iblk m c 0 t = blockRows (flat (argRows m c)) (pt t) := by
  obtain ⟨h0, h1⟩ : win0_0.index t (0 : Fin 2) = t.val ∧ win0_0.index t (1 : Fin 2) = 0 :=
    (by decide +kernel : ∀ (t : Fin grid0.N), win0_0.index t (0 : Fin 2) = t.val ∧ win0_0.index t (1 : Fin 2) = 0) t
  funext y
  show V m c (Pipeline.arrRef spec0 0) (((cfg0.win 0).blk t).view.emb y) = _
  rw [show V m c (Pipeline.arrRef spec0 0) = flat (argRows m c) from by
    show V m c main_v0 = _
    entry_read
    rfl]
  unfold blockRows
  congr 1
  funext a
  apply Fin.ext
  match a with
  | ⟨0, _⟩ => show win0_0.index t (0 : Fin 2) * 1152 + 1 * (y 0).val = t.val * 1152 + (y 0).val; omega
  | ⟨1, _⟩ => show win0_0.index t (1 : Fin 2) * 256 + 1 * (y 1).val = (y 1).val; omega

/-- After every point the scratch arrays hold the codebook array's own parts and norms. -/
theorem scratch_at : ∀ (n : Nat) (hn : n < cfg0.N), (outsAt0 m c n hn).2.2.2 =
    (k0_pay7 (argBooks m c), k0_pay8 (argBooks m c), k0_pay9 (argBooks m c), k0_pay10 (argBooks m c))
  | 0, hn => by
    rw [show outsAt0 m c 0 hn = _ from outsAt0_A m c ⟨0, hn⟩ rfl]
    dsimp only
    rw [scratch0_eq, scratch1_eq, scratch2_eq, scratch3_eq, iblk_books]
  | n + 1, hn => by
    have ih := scratch_at n (Nat.lt_of_succ_lt hn)
    have h4 : n + 1 < 4 := lt_of_lt_of_eq hn N_0
    rw [show outsAt0 m c (n + 1) hn = _ from outsAt0_B m c ⟨n + 1, hn⟩ (by show ¬(n + 1) % 4 = 0; omega)]
    exact ih

/-- What the body leaves in the three outputs at every point: the stages over that block of rows and the codebooks. -/
theorem outs_at (t : Fin cfg0.N) :
    (outsAt0 m c t.val t.isLt).1 = out (own (argBooks m c)) (blockRows (flat (argRows m c)) (pt t)) 4
    ∧ (outsAt0 m c t.val t.isLt).2.1 = idx (own (argBooks m c)) (blockRows (flat (argRows m c)) (pt t)) 4
    ∧ (outsAt0 m c t.val t.isLt).2.2.1 =
        shapeCast S1x8x128 (loss (own (argBooks m c)) (blockRows (flat (argRows m c)) (pt t)) 4) shapeCasts_S8x128_S1x8x128 := by
  by_cases h0 : t.val % 4 = 0
  · rw [outsAt0_A m c t h0]
    dsimp only
    rw [outA_eq, idxA_eq, lossA_eq, iblk_books, iblk_rows]
    exact ⟨rfl, rfl, rfl⟩
  · have hs := scratch_at m c (t.val - 1) (Nat.lt_of_le_of_lt (Nat.sub_le _ _) t.isLt)
    rw [outsAt0_B m c t h0]
    dsimp only
    rw [outB_eq, idxB_eq, lossB_eq, iblk_books, iblk_rows, hs]
    exact ⟨rfl, rfl, rfl⟩

/-- The block that holds a row. -/
def blk (R : Fin 4608) : Fin 4 := ⟨R.val / 1152, by omega⟩

/-- A row's place in its block. -/
def loc (R : Fin 4608) : Fin 1152 := ⟨R.val % 1152, by omega⟩

/-- The array of quantized rows. -/
def arrOut (x : Vec F S4608x256 .f32) (b : Vec F S4x1024x256 .f32) : Vec F S4608x256 .f32 :=
  fun i => out (own b) (blockRows x (blk (i 0))) 4 (ix2 (loc (i 0)) (i 1))

/-- The array of indices. -/
def arrIdx (x : Vec F S4608x256 .f32) (b : Vec F S4x1024x256 .f32) : Vec F S4608x128 .i32 :=
  fun i => idx (own b) (blockRows x (blk (i 0))) 4 (ix2 (loc (i 0)) (i 1))

/-- The array of losses. -/
def arrLoss (x : Vec F S4608x256 .f32) (b : Vec F S4x1024x256 .f32) : Vec F S4x8x128 .f32 :=
  fun i => loss (own b) (blockRows x (i 0)) 4 (ix2 (i 1) (i 2))

end Cert.KernelIdeal.Block
-- ==== Proof.KRun.lean ====
/-
  The kernel's run: its three result arrays, each the blocks together, and the three results of @main from them.
-/
module

public import proofs.«01_k».proof.Proof.KArray

@[expose] public section

noncomputable section

namespace Cert.KernelIdeal.Block

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The array of quantized rows after the region. -/
theorem final2 : (dats m 0 c).arrAt 2 cfg0.N = arrOut (flat (argRows m c)) (argBooks m c) := by
  have hi : ∀ (t : Fin cfg0.N), win0_2.index t (0 : Fin 2) = t.val ∧ win0_2.index t (1 : Fin 2) = 0 :=
    (by decide +kernel : ∀ (t : Fin grid0.N), win0_2.index t (0 : Fin 2) = t.val ∧ win0_2.index t (1 : Fin 2) = 0)
  refine (dats m 0 c).arrAt_eq_of_cover 2 _ (fun t _ => ?_) (fun i => ?_)
  · obtain ⟨h0, h1⟩ := hi t
    show (cfg0.win 2).cut (grid0.coords t) ((dats m 0 c).after 2 t) = _
    rw [after0_2, (outs_at m c t).1]
    funext y
    have hy0 : (y 0).val < 1152 := (y 0).isLt
    have hb0 : (((cfg0.win 2).blk t).view.emb y 0).val = win0_2.index t (0 : Fin 2) * 1152 + 1 * (y 0).val := rfl
    have hb1 : (((cfg0.win 2).blk t).view.emb y 1).val = win0_2.index t (1 : Fin 2) * 256 + 1 * (y 1).val := rfl
    have e0 : blk (((cfg0.win 2).blk t).view.emb y 0) = pt t := Fin.ext (by
      show (((cfg0.win 2).blk t).view.emb y 0).val / 1152 = t.val; rw [hb0]; omega)
    have e1 : ix2 (loc (((cfg0.win 2).blk t).view.emb y 0)) (((cfg0.win 2).blk t).view.emb y 1)
        = (cfg0.win 2).xinj (grid0.coords t) y := by
      funext a; apply Fin.ext
      match a with
      | ⟨0, _⟩ => show (((cfg0.win 2).blk t).view.emb y 0).val % 1152 = (y 0).val; rw [hb0]; omega
      | ⟨1, _⟩ => show (((cfg0.win 2).blk t).view.emb y 1).val = (y 1).val; rw [hb1]; omega
    show _ = arrOut (flat (argRows m c)) (argBooks m c) (((cfg0.win 2).blk t).view.emb y)
    unfold arrOut
    rw [e0]
    exact (congrArg _ e1).symm
  · have hi0 : (i 0).val < 4608 := (i 0).isLt
    have hi1 : (i 1).val < 256 := (i 1).isLt
    let t : Fin cfg0.N := ⟨(i 0).val / 1152, lt_of_lt_of_eq (by omega) N_0.symm⟩
    obtain ⟨h0, h1⟩ := hi t
    refine ⟨t, flush0_2 t, ?_⟩
    show i ∈ ((View.whole main_v1_0).slice (win0_2.rect t)).set
    rw [View.set_slice_whole, Rect.mem_set_unit]
    intro a
    have ht : t.val = (i 0).val / 1152 := rfl
    match a with
    | ⟨0, _⟩ => show win0_2.index t (0 : Fin 2) * 1152 ≤ (i 0).val ∧ (i 0).val < win0_2.index t (0 : Fin 2) * 1152 + 1152; omega
    | ⟨1, _⟩ => show win0_2.index t (1 : Fin 2) * 256 ≤ (i 1).val ∧ (i 1).val < win0_2.index t (1 : Fin 2) * 256 + 256; omega

/-- The array of indices after the region. -/
theorem final3 : (dats m 0 c).arrAt 3 cfg0.N = arrIdx (flat (argRows m c)) (argBooks m c) := by
  have hi : ∀ (t : Fin cfg0.N), win0_3.index t (0 : Fin 2) = t.val ∧ win0_3.index t (1 : Fin 2) = 0 :=
    (by decide +kernel : ∀ (t : Fin grid0.N), win0_3.index t (0 : Fin 2) = t.val ∧ win0_3.index t (1 : Fin 2) = 0)
  refine (dats m 0 c).arrAt_eq_of_cover 3 _ (fun t _ => ?_) (fun i => ?_)
  · obtain ⟨h0, h1⟩ := hi t
    show (cfg0.win 3).cut (grid0.coords t) ((dats m 0 c).after 3 t) = _
    rw [after0_3, (outs_at m c t).2.1]
    funext y
    have hy0 : (y 0).val < 1152 := (y 0).isLt
    have hb0 : (((cfg0.win 3).blk t).view.emb y 0).val = win0_3.index t (0 : Fin 2) * 1152 + 1 * (y 0).val := rfl
    have hb1 : (((cfg0.win 3).blk t).view.emb y 1).val = win0_3.index t (1 : Fin 2) * 128 + 1 * (y 1).val := rfl
    have e0 : blk (((cfg0.win 3).blk t).view.emb y 0) = pt t := Fin.ext (by
      show (((cfg0.win 3).blk t).view.emb y 0).val / 1152 = t.val; rw [hb0]; omega)
    have e1 : ix2 (loc (((cfg0.win 3).blk t).view.emb y 0)) (((cfg0.win 3).blk t).view.emb y 1)
        = (cfg0.win 3).xinj (grid0.coords t) y := by
      funext a; apply Fin.ext
      match a with
      | ⟨0, _⟩ => show (((cfg0.win 3).blk t).view.emb y 0).val % 1152 = (y 0).val; rw [hb0]; omega
      | ⟨1, _⟩ => show (((cfg0.win 3).blk t).view.emb y 1).val = (y 1).val; rw [hb1]; omega
    show _ = arrIdx (flat (argRows m c)) (argBooks m c) (((cfg0.win 3).blk t).view.emb y)
    unfold arrIdx
    rw [e0]
    exact (congrArg _ e1).symm
  · have hi0 : (i 0).val < 4608 := (i 0).isLt
    have hi1 : (i 1).val < 128 := (i 1).isLt
    let t : Fin cfg0.N := ⟨(i 0).val / 1152, lt_of_lt_of_eq (by omega) N_0.symm⟩
    obtain ⟨h0, h1⟩ := hi t
    refine ⟨t, flush0_3 t, ?_⟩
    show i ∈ ((View.whole main_v1_1).slice (win0_3.rect t)).set
    rw [View.set_slice_whole, Rect.mem_set_unit]
    intro a
    have ht : t.val = (i 0).val / 1152 := rfl
    match a with
    | ⟨0, _⟩ => show win0_3.index t (0 : Fin 2) * 1152 ≤ (i 0).val ∧ (i 0).val < win0_3.index t (0 : Fin 2) * 1152 + 1152; omega
    | ⟨1, _⟩ => show win0_3.index t (1 : Fin 2) * 128 ≤ (i 1).val ∧ (i 1).val < win0_3.index t (1 : Fin 2) * 128 + 128; omega

/-- The array of losses after the region. -/
theorem final4 : (dats m 0 c).arrAt 4 cfg0.N = arrLoss (flat (argRows m c)) (argBooks m c) := by
  have hi : ∀ (t : Fin cfg0.N), win0_4.index t (0 : Fin 3) = t.val ∧ win0_4.index t (1 : Fin 3) = 0 ∧ win0_4.index t (2 : Fin 3) = 0 :=
    (by decide +kernel : ∀ (t : Fin grid0.N),
      win0_4.index t (0 : Fin 3) = t.val ∧ win0_4.index t (1 : Fin 3) = 0 ∧ win0_4.index t (2 : Fin 3) = 0)
  refine (dats m 0 c).arrAt_eq_of_cover 4 _ (fun t _ => ?_) (fun i => ?_)
  · obtain ⟨h0, h1, h2⟩ := hi t
    show (cfg0.win 4).cut (grid0.coords t) ((dats m 0 c).after 4 t) = _
    rw [after0_4, (outs_at m c t).2.2]
    funext y
    have hy0 : (y 0).val < 1 := (y 0).isLt
    have e0 : ((cfg0.win 4).blk t).view.emb y 0 = pt t := Fin.ext (by
      show win0_4.index t (0 : Fin 3) * 1 + 1 * (y 0).val = t.val; omega)
    have e1 : ((cfg0.win 4).blk t).view.emb y 1 = y 1 := Fin.ext (by
      show win0_4.index t (1 : Fin 3) * 8 + 1 * (y 1).val = (y 1).val; omega)
    have e2 : ((cfg0.win 4).blk t).view.emb y 2 = y 2 := Fin.ext (by
      show win0_4.index t (2 : Fin 3) * 128 + 1 * (y 2).val = (y 2).val; omega)
    have ey : (cfg0.win 4).xinj (grid0.coords t) y = (ix3 0 (y 1) (y 2) : S1x8x128.Idx) := by
      funext a; apply Fin.ext
      match a with
      | ⟨0, _⟩ => show (y 0).val = 0; omega
      | ⟨1, _⟩ => rfl
      | ⟨2, _⟩ => rfl
    show shapeCast S1x8x128 (loss (own (argBooks m c)) (blockRows (flat (argRows m c)) (pt t)) 4) shapeCasts_S8x128_S1x8x128
        ((cfg0.win 4).xinj (grid0.coords t) y)
      = arrLoss (flat (argRows m c)) (argBooks m c) (((cfg0.win 4).blk t).view.emb y)
    unfold arrLoss
    rw [e0, e1, e2, ey]
    pointwise
  · have hi0 : (i 0).val < 4 := (i 0).isLt
    have hi1 : (i 1).val < 8 := (i 1).isLt
    have hi2 : (i 2).val < 128 := (i 2).isLt
    let t : Fin cfg0.N := ⟨(i 0).val, lt_of_lt_of_eq (by omega) N_0.symm⟩
    obtain ⟨h0, h1, h2⟩ := hi t
    refine ⟨t, flush0_4 t, ?_⟩
    show i ∈ ((View.whole main_v1_2).slice (win0_4.rect t)).set
    rw [View.set_slice_whole, Rect.mem_set_unit]
    intro a
    have ht : t.val = (i 0).val := rfl
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 8 ≤ (i 1).val ∧ (i 1).val < win0_4.index t (1 : Fin 3) * 8 + 8; omega
    | ⟨2, _⟩ => show win0_4.index t (2 : Fin 3) * 128 ≤ (i 2).val ∧ (i 2).val < win0_4.index t (2 : Fin 3) * 128 + 128; omega

/-- The first result: the quantized rows in the argument's shape. -/
def resOut (a : Vec F S4608x256 .f32) : Vec F S8x576x256 .f32 := shapeCast S8x576x256 a shapeCasts_S4608x256_S8x576x256

/-- The second result: the first four lanes of the indices. -/
def resIdx (a : Vec F S4608x128 .i32) : Vec F S8x576x4 .i32 :=
  shapeCast S8x576x4 (extractStridedSlice S4608x4 ![0, 0] a slices_S4608x128_S4608x4_0_0) shapeCasts_S4608x4_S8x576x4

/-- The third result: the blocks' losses summed, the first four lanes, over the number of entries. -/
def resLoss (a : Vec F S4x8x128 .f32) : Vec F S4 .f32 :=
  Host.divf (extractStridedSlice S4 ![0] (Host.reduceAdd a (constant S_ .f32 0x00000000#32) reducesTo_S4x8x128_S128_d0_1 h_S_) slices_S128_S4_0)
    (broadcastInDim S4 ![] bcast_S_S4 (constant S_ .f32 0x49900000#32))

section tail

variable (W : Valuation τ sig (Elt F))

/-- The first result after the host lines that follow the region, from any contents. -/
theorem tail_out : StableHlo.after (hostOps1 (F := F)) W (Proc.devRef .tc main_v2) = resOut (W (Proc.devRef .tc main_v1_0)) := by
  after_results
  rfl

/-- The second result after the host lines that follow the region. -/
theorem tail_idx : StableHlo.after (hostOps1 (F := F)) W (Proc.devRef .tc main_v4) = resIdx (W (Proc.devRef .tc main_v1_1)) := by
  after_results
  rfl

/-- The third result after the host lines that follow the region. -/
theorem tail_loss : StableHlo.after (hostOps1 (F := F)) W (Proc.devRef .tc main_v8) = resLoss (W (Proc.devRef .tc main_v1_2)) := by
  after_results
  rfl

end tail

/-- The windows' arrays are distinct. -/
theorem arrays_distinct : Function.Injective (Pipeline.arrRef cfg0.spec) := by
  decide

/-- The kernel's run: its three results, and its arguments unchanged. -/
theorem run : θ_run defs (onTc (τ := τ) (main (F := F))) ⟨m, fun _ => 0, ρ⟩ fun r => ∀ c : Dev nD,
      r.2.mem ((c : Thread nD τ).loc main_v2) = resOut (arrOut (flat (argRows m c)) (argBooks m c))
      ∧ r.2.mem ((c : Thread nD τ).loc main_v4) = resIdx (arrIdx (flat (argRows m c)) (argBooks m c))
      ∧ r.2.mem ((c : Thread nD τ).loc main_v8) = resLoss (arrLoss (flat (argRows m c)) (argBooks m c))
      ∧ r.2.mem ((c : Thread nD τ).loc main_arg0) = m ((c : Thread nD τ).loc main_arg0)
      ∧ r.2.mem ((c : Thread nD τ).loc main_arg1) = m ((c : Thread nD τ).loc main_arg1) := by
  refine θ_run_mono (θ_run_and (run_main m ρ) (unchanged m ρ)) fun r h c => ?_
  obtain ⟨h, hk⟩ := h
  refine ⟨?_, ?_, ?_, hk c⟩
  · rw [← final2]
    exact ((h c).2 main_v2 (Pipeline.mem_restRefs_of main_v2 (by decide) (by decide))).trans
      ((tail_out _).trans (congrArg resOut (Pipeline.withArrays_arr cfg0.spec arrays_distinct c _ _ 2)))
  · rw [← final3]
    exact ((h c).2 main_v4 (Pipeline.mem_restRefs_of main_v4 (by decide) (by decide))).trans
      ((tail_idx _).trans (congrArg resIdx (Pipeline.withArrays_arr cfg0.spec arrays_distinct c _ _ 3)))
  · rw [← final4]
    exact ((h c).2 main_v8 (Pipeline.mem_restRefs_of main_v8 (by decide) (by decide))).trans
      ((tail_loss _).trans (congrArg resLoss (Pipeline.withArrays_arr cfg0.spec arrays_distinct c _ _ 4)))

end Cert.KernelIdeal.Block
-- ==== Proof.KValue.lean ====
/-
  One stage of the kernel at the extended reals: on fine rows and codebooks the index found is the nearest row's, and
  the quantized rows are the codebook's rows at those indices.
-/
module

public import proofs.«01_k».proof.Proof.KStage
public import proofs.«01_k».proof.Proof.Spec

@[expose] public section

noncomputable section

namespace Cert.KernelIdeal.Block

open Cert.KernelIdeal Cert.KernelIdeal.Gen Idealize.ShloMosaic Cert.Spec

/-- A stage's table holds the codebook `c`: its rows, their squared norms, the whole codebook as its high part, and
    nothing in the other two parts. -/
structure Good (T : Table Ideal) (c : Fin 1024 → Fin 256 → EReal) : Prop where
  /-- The rows. -/
  book : ∀ k d, T.book (ix3 0 k d) = c k d
  /-- The squared norms. -/
  norm : ∀ k, T.norm (ix3 0 0 k) = ∑ d, c k d * c k d
  /-- The high part. -/
  hi : ∀ k d, T.hi (ix3 0 k d) = c k d
  /-- The middle part. -/
  mid : ∀ k d, T.mid (ix3 0 k d) = 0
  /-- The low part. -/
  lo : ∀ k d, T.lo (ix3 0 k d) = 0

/-- Row `i` of a block. -/
def row (r : FVec Ideal S1152x256 .f32) (i : Fin 1152) : Fin 256 → EReal := fun d => r (ix2 i d)

/-- An index's word, converted, is the index. -/
theorem sitofp_index (k : Fin 1024) : FloatOps.sitofp (F := Ideal) .f32 (BitVec.ofNat 32 k.val) = ((k.val : ℝ) : EReal) :=
  congrArg (fun z : ℝ => (z : EReal)) (toInt_index k)

/-- The index found for a row is the nearest codebook row's. -/
theorem best_eq {T : Table Ideal} {c : Fin 1024 → Fin 256 → EReal} (hT : Good T c) (hc : ∀ k, Fine (c k))
    (r : FVec Ideal S1152x256 .f32) (i : Fin 1152) (hr : Fine (row r i)) :
    best T r (ix2 i 0) = (((near (row r i) c).val : ℝ) : EReal) := by
  pointwise [best, k0_pay26, k0_pay13]
  have hd : ∀ k : Fin 1024, ∑ d, r (ix2 i d) * r (ix2 i d) +
      ∑ d, r (ix2 i d) * Ideal.ofBits FTy.f32 3221225472#32 * T.book (ix3 0 k d) + T.norm (ix3 0 0 k) = dist (row r i) c k := by
    intro k
    rw [← dist_scaled hr hc k, bits_neg_two, hT.norm]
    simp only [hT.book]
    rfl
  simp only [hd]
  rw [bits_top, bits_1024, fold_min_eq (dist (row r i) c), near, ← fold_index_eq]
  refine Finset.fold_congr fun k _ => ?_
  rw [sitofp_index k]

/-- The one-hot matrix holds one at the nearest row's index and zero elsewhere. -/
theorem hot_eq {T : Table Ideal} {c : Fin 1024 → Fin 256 → EReal} (hT : Good T c) (hc : ∀ k, Fine (c k))
    (r : FVec Ideal S1152x256 .f32) (i : Fin 1152) (hr : Fine (row r i)) (k : Fin 1024) :
    hot T r (ix2 i k) = if k = near (row r i) c then 1#32 else 0#32 := by
  have hb := best_eq hT hc r i hr
  pointwise [hot, k0_pay13]
  rw [hb, sitofp_index k]
  by_cases h : k = near (row r i) c
  · rw [if_pos h, h]; simp
  · rw [if_neg h, decide_eq_false]
    · rfl
    · rw [EReal.coe_eq_coe_iff]
      exact fun e => h (Fin.ext (by exact_mod_cast e))

/-- The quantized row is the nearest codebook row. -/
theorem quant_eq {T : Table Ideal} {c : Fin 1024 → Fin 256 → EReal} (hT : Good T c) (hc : ∀ k, Fine (c k))
    (r : FVec Ideal S1152x256 .f32) (i : Fin 1152) (hr : Fine (row r i)) (d : Fin 256) :
    quant T r (ix2 i d) = c (near (row r i) c) d := by
  pointwise [quant, k0_pay19]
  have hh : ∀ k, FloatOps.sitofp (F := Ideal) FTy.f32 (hot T r (ix2 i k)) = if k = near (row r i) c then (1 : EReal) else 0 := by
    intro k
    rw [hot_eq hT hc r i hr k]
    split
    · show (((1#32 : BitVec 32).toInt : ℝ) : EReal) = 1
      simp
    · show (((0#32 : BitVec 32).toInt : ℝ) : EReal) = 0
      simp
  simp only [hh, hT.hi, hT.mid, hT.lo, mul_zero, Finset.sum_const_zero, add_zero]
  exact sum_hot _ _

/-- The sum of a block's squares, row by row. -/
theorem sqsum_eq (v : FVec Ideal S1152x256 .f32) : sqsum v = ∑ i : Fin 1152, ∑ d : Fin 256, v (ix2 i d) * v (ix2 i d) := by
  pointwise [sqsum]
-- ==== Proof.Stages.lean ====
/-
  The stages on one row: the residual, the running sum, the index and the squared distance of each stage.
-/
module

public import proofs.«01_k».proof.Proof.Spec

@[expose] public section

noncomputable section

namespace Cert.Spec

/-- One row's residual before stage `k`. -/
def rowRes (c : Nat → Fin 1024 → Fin 256 → EReal) (r : Fin 256 → EReal) : Nat → Fin 256 → EReal
  | 0 => r
  | k + 1 => fun d => rowRes c r k d - c k (near (rowRes c r k) (c k)) d

/-- One row's index at stage `k`. -/
def rowIdx (c : Nat → Fin 1024 → Fin 256 → EReal) (r : Fin 256 → EReal) (k : Nat) : Fin 1024 := near (rowRes c r k) (c k)

/-- One row's running sum before stage `k`. -/
def rowOut (c : Nat → Fin 1024 → Fin 256 → EReal) (r : Fin 256 → EReal) : Nat → Fin 256 → EReal
  | 0 => fun _ => 0
  | k + 1 => fun d => rowOut c r k d + (rowRes c r k d + (c k (rowIdx c r k) d - rowRes c r k d))

/-- One row's squared distance from its codebook row at stage `k`. -/
def rowLoss (c : Nat → Fin 1024 → Fin 256 → EReal) (r : Fin 256 → EReal) (k : Nat) : EReal :=
  ∑ d, (c k (rowIdx c r k) d - rowRes c r k d) * (c k (rowIdx c r k) d - rowRes c r k d)

/-- A fine row's residuals are fine. -/
theorem rowRes_fine {c : Nat → Fin 1024 → Fin 256 → EReal} {r : Fin 256 → EReal} (hc : ∀ k j, Fine (c k j)) (hr : Fine r) :
    ∀ k, Fine (rowRes c r k)
  | 0 => hr
  | k + 1 => (rowRes_fine hc hr k).sub (hc k _)

/-- The four codebooks of an array, by stage. -/
def books (b : (⟨3, ![4, 1024, 256]⟩ : Idealize.ShloMosaic.Shape).Idx → EReal) : Nat → Fin 1024 → Fin 256 → EReal
  | 0 => fun j d => b (Idealize.ShloMosaic.ix3 0 j d)
  | 1 => fun j d => b (Idealize.ShloMosaic.ix3 1 j d)
  | 2 => fun j d => b (Idealize.ShloMosaic.ix3 2 j d)
  | _ => fun j d => b (Idealize.ShloMosaic.ix3 3 j d)

/-- A fine array's codebooks are fine. -/
theorem books_fine {b : (⟨3, ![4, 1024, 256]⟩ : Idealize.ShloMosaic.Shape).Idx → EReal} (hb : Fine b) : ∀ k j, Fine (books b k j)
  | 0, _ => hb.comp _
  | 1, _ => hb.comp _
  | 2, _ => hb.comp _
  | _ + 3, _ => hb.comp _

end Cert.Spec
-- ==== Proof.KRows.lean ====
/-
  The stages of a block at the extended reals, row by row: the block's four tables hold the four codebooks, and each row
  of the block goes through the stages on its own.
-/
module

public import proofs.«01_k».proof.Proof.KBlock
public import proofs.«01_k».proof.Proof.KValue
public import proofs.«01_k».proof.Proof.Stages
public import Idealize.ShloMosaic.Lib.Pipeline.ValueKit.Tiles

@[expose] public section

noncomputable section

namespace Cert.KernelIdeal.Block

open Cert.KernelIdeal Cert.KernelIdeal.Gen Idealize.ShloMosaic Cert.Spec

section tables

variable {b : Vec Ideal S4x1024x256 .f32} (hb : Fine b)
include hb

/-- The high part of the codebooks is the codebooks. -/
theorem hi_eq : k0_pay7 b = b := by
  funext i
  rw [ValueIdx.eq_ix3 i]
  pointwise [k0_pay7, k0_pay4]

/-- The middle part is zero. -/
theorem mid_eq (q : Fin 4) (k : Fin 1024) (d : Fin 256) : k0_pay8 b (ix3 q k d) = 0 := by
  pointwise [k0_pay8, k0_pay6, k0_pay5, k0_pay4]
  exact hb.sub_self _

/-- The low part is zero. -/
theorem lo_eq (q : Fin 4) (k : Fin 1024) (d : Fin 256) : k0_pay9 b (ix3 q k d) = 0 := by
  pointwise [k0_pay9, k0_pay6, k0_pay5, k0_pay4]
  rw [hb.sub_self, sub_zero]

omit hb in
/-- The squared norms. -/
theorem norm_eq (q : Fin 4) (k : Fin 1024) : k0_pay10 b (ix3 q 0 k) = ∑ d, b (ix3 q k d) * b (ix3 q k d) := by
  pointwise [k0_pay10]

/-- A table loaded from the codebooks, their parts and their norms at offset `q` holds codebook `q`. -/
theorem good_of_slices (q : Fin 4) (hq : ∀ a, (![q.val, 0, 0] : Fin 3 → Nat) a + S1x1024x256.size a ≤ S4x1024x256.size a)
    (hn : ∀ a, (![q.val, 0, 0] : Fin 3 → Nat) a + S1x1x1024.size a ≤ S4x1x1024.size a) :
    Good ⟨View.ld b (Rect.unit (s := S4x1024x256) ![q.val, 0, 0] S1x1024x256.size hq), View.ld (k0_pay10 b) (Rect.unit (s := S4x1x1024) ![q.val, 0, 0] S1x1x1024.size hn),
      View.ld (k0_pay7 b) (Rect.unit (s := S4x1024x256) ![q.val, 0, 0] S1x1024x256.size hq), View.ld (k0_pay8 b) (Rect.unit (s := S4x1024x256) ![q.val, 0, 0] S1x1024x256.size hq),
      View.ld (k0_pay9 b) (Rect.unit (s := S4x1024x256) ![q.val, 0, 0] S1x1024x256.size hq)⟩ (fun j d => b (ix3 q j d)) := by
  have e : ∀ (j : Fin 1024) (d : Fin 256) (a : Fin 3), ((ix3 q j d : S4x1024x256.Idx) a : Nat)
      = (![q.val, 0, 0] : Fin 3 → Nat) a + ((ix3 0 j d : S1x1024x256.Idx) a : Nat) := by
    intro j d a
    match a with
    | ⟨0, _⟩ => rfl
    | ⟨1, _⟩ => exact (Nat.zero_add _).symm
    | ⟨2, _⟩ => exact (Nat.zero_add _).symm
  have e' : ∀ (j : Fin 1024) (a : Fin 3), ((ix3 q 0 j : S4x1x1024.Idx) a : Nat)
      = (![q.val, 0, 0] : Fin 3 → Nat) a + ((ix3 0 0 j : S1x1x1024.Idx) a : Nat) := by
    intro j a
    match a with
    | ⟨0, _⟩ => rfl
    | ⟨1, _⟩ => rfl
    | ⟨2, _⟩ => exact (Nat.zero_add _).symm
  refine ⟨fun j d => ?_, fun j => ?_, fun j d => ?_, fun j d => ?_, fun j d => ?_⟩
  · exact View.ld_unit_apply_of b _ _ hq _ (ix3 q j d) (e j d)
  · refine (View.ld_unit_apply_of (Val := Elt Ideal) (e := .f32) (k0_pay10 b) _ _ hn _ (ix3 q 0 j) (e' j)).trans ?_
    exact norm_eq q j
  · refine (View.ld_unit_apply_of (Val := Elt Ideal) (e := .bf16) (k0_pay7 b) _ _ hq _ (ix3 q j d) (e j d)).trans ?_
    exact congrFun (hi_eq hb) _
  · refine (View.ld_unit_apply_of (Val := Elt Ideal) (e := .bf16) (k0_pay8 b) _ _ hq _ (ix3 q j d) (e j d)).trans ?_
    exact mid_eq hb q j d
  · refine (View.ld_unit_apply_of (Val := Elt Ideal) (e := .bf16) (k0_pay9 b) _ _ hq _ (ix3 q j d) (e j d)).trans ?_
    exact lo_eq hb q j d

/-- The tables a block makes for itself hold the codebooks. -/
theorem own_good : ∀ k, Good (own b k) (books b k)
  | 0 => good_of_slices hb 0 inb_S4x1024x256_S1x1024x256_0_0_0 inb_S4x1x1024_S1x1x1024_0_0_0
  | 1 => good_of_slices hb 1 inb_S4x1024x256_S1x1024x256_1_0_0 inb_S4x1x1024_S1x1x1024_1_0_0
  | 2 => good_of_slices hb 2 inb_S4x1024x256_S1x1024x256_2_0_0 inb_S4x1x1024_S1x1x1024_2_0_0
  | _ + 3 => good_of_slices hb 3 inb_S4x1024x256_S1x1024x256_3_0_0 inb_S4x1x1024_S1x1x1024_3_0_0

end tables

section rows

/-- Two indices' words compare equal exactly when the indices are. -/
theorem cmpi_index (a b : Nat) (ha : a < 2 ^ 32) (hb : b < 2 ^ 32) :
    IntOp.cmpi .eq (BitVec.ofNat 32 a) (BitVec.ofNat 32 b) = if a = b then 1#1 else 0#1 := by
  by_cases h : a = b
  · rw [if_pos h, h]
    simp [IntOp.cmpi]
  · rw [if_neg h]
    have : ¬ BitVec.ofNat 32 a = BitVec.ofNat 32 b := fun e => h (by
      have := congrArg BitVec.toNat e
      rw [BitVec.toNat_ofNat, BitVec.toNat_ofNat, Nat.mod_eq_of_lt ha, Nat.mod_eq_of_lt hb] at this
      exact this)
    show BitVec.ofBool (BitVec.ofNat 32 a == BitVec.ofNat 32 b) = 0#1
    rw [beq_false_of_ne this]
    rfl

variable {T : Nat → Table Ideal} {c : Nat → Fin 1024 → Fin 256 → EReal} (hT : ∀ k, Good (T k) (c k)) (hc : ∀ k j, Fine (c k j))
variable (x : FVec Ideal S1152x256 .f32)
include hT hc

/-- A row of the block of residuals is the row's residual. -/
theorem res_row (i : Fin 1152) (hx : Fine (row x i)) : ∀ k, row (res T x k) i = rowRes c (row x i) k
  | 0 => rfl
  | k + 1 => by
    have ih := res_row i hx k
    have hf : Fine (row (res T x k) i) := ih ▸ rowRes_fine hc hx k
    funext d
    show res T x k (ix2 i d) - quant (T k) (res T x k) (ix2 i d) = rowRes c (row x i) k d - _
    rw [quant_eq (hT k) (hc k) _ i hf, ih, ← ih]
    rfl

/-- A row of the quantized block is the codebook row at the row's index. -/
theorem quant_row (i : Fin 1152) (hx : Fine (row x i)) (k : Nat) (d : Fin 256) :
    quant (T k) (res T x k) (ix2 i d) = c k (rowIdx c (row x i) k) d := by
  have ih := res_row hT hc x i hx k
  rw [quant_eq (hT k) (hc k) _ i (ih ▸ rowRes_fine hc hx k), ih]
  rfl

/-- The residual at an entry. -/
theorem res_at (i : Fin 1152) (hx : Fine (row x i)) (k : Nat) (d : Fin 256) : res T x k (ix2 i d) = rowRes c (row x i) k d :=
  congrFun (res_row hT hc x i hx k) d

/-- The running sum at an entry. -/
theorem out_at (i : Fin 1152) (hx : Fine (row x i)) (d : Fin 256) : ∀ k, out T x k (ix2 i d) = rowOut c (row x i) k d
  | 0 => by
    show (k0_pay12 : FVec Ideal S1152x256 .f32) (ix2 i d) = 0
    pointwise [k0_pay12]
  | k + 1 => by
    show out T x k (ix2 i d) + (res T x k (ix2 i d) + (quant (T k) (res T x k) (ix2 i d) - res T x k (ix2 i d))) = _
    rw [out_at i hx d k, quant_row hT hc x i hx, res_at hT hc x i hx]
    rfl

/-- The index lanes: lane `q`, once written, holds the row's index at stage `q`. -/
theorem idx_at (i : Fin 1152) (hx : Fine (row x i)) (q : Fin 128) : ∀ n, n ≤ 128 → q.val < n →
    idx T x n (ix2 i q) = BitVec.ofNat 32 (rowIdx c (row x i) q.val).val
  | 0, _, h => absurd h (Nat.not_lt_zero _)
  | n + 1, hn, h => by
    have ih := res_row hT hc x i hx n
    have hb : best (T n) (res T x n) (ix2 i 0) = (((rowIdx c (row x i) n).val : ℝ) : EReal) := by
      rw [best_eq (hT n) (hc n) _ i (ih ▸ rowRes_fine hc hx n), ih]; rfl
    have hq := idx_at i hx q n (by omega)
    unfold idx
    pointwise
    rw [cmpi_index _ _ (by omega) (by omega), hb]
    by_cases e : q.val = n
    · rw [if_pos e, e]
      exact fptosi_index _
    · rw [if_neg e]
      exact hq (by omega)

/-- The loss lanes. -/
theorem loss_at (hx : ∀ i, Fine (row x i)) (a : Fin 8) (q : Fin 128) : ∀ n, n ≤ 128 →
    loss T x n (ix2 a q) = if a.val = 0 ∧ q.val < n then ∑ i, rowLoss c (row x i) q.val else 0
  | 0, _ => by
    rw [if_neg (by omega)]
    show (k0_pay15 : FVec Ideal S8x128 .f32) (ix2 a q) = 0
    pointwise [k0_pay15]
  | n + 1, hn => by
    have ih := loss_at hx a q n (by omega)
    have hs : sqsum (subf (quant (T n) (res T x n)) (res T x n)) = ∑ i, rowLoss c (row x i) n := by
      rw [sqsum_eq]
      refine Finset.sum_congr rfl fun i _ => Finset.sum_congr rfl fun d _ => ?_
      show (quant (T n) (res T x n) (ix2 i d) - res T x n (ix2 i d)) * (quant (T n) (res T x n) (ix2 i d) - res T x n (ix2 i d)) = _
      rw [quant_row hT hc x i (hx i), res_at hT hc x i (hx i)]
    unfold loss
    pointwise
    have ha : a.val < 8 := a.isLt
    rw [cmpi_index _ _ (by omega) (by omega), cmpi_index _ 0 (by omega) (by omega), hs, ih]
    by_cases e : q.val = n
    · by_cases e0 : a.val = 0
      · rw [if_pos e, if_pos e0, if_neg (by omega), if_pos (by omega), e]
        exact zero_add _
      · rw [if_pos e, if_neg e0, if_neg (by omega), if_neg (by omega)]
        exact zero_add _
    · rw [if_neg e, show (if a.val = 0 then (1#1 : BitVec 1) else 0#1) = if a.val = 0 then 1#1 else 0#1 from rfl]
      have h0 : Scalar.select (IntOp.andi (0#1) (if a.val = 0 then (1#1 : BitVec 1) else 0#1)) (∑ i, rowLoss c (row x i) n) 0 = 0 := by
        split <;> rfl
      rw [h0, add_zero]
      exact if_congr (by omega) rfl rfl

end rows

end Cert.KernelIdeal.Block
-- ==== Proof.RefFold.lean ====
/-
  The fold of the reference's arg-min reducer at the extended reals: it ends with a pair no later than any it meets.
-/
module

public import proofs.«01_k».proof.Proof.RefRun
public import proofs.«01_k».proof.Proof.Spec

@[expose] public section

noncomputable section

namespace Cert.ReferenceIdeal.Value

open Cert.ReferenceIdeal Cert.ReferenceIdeal.Gen Idealize.ShloMosaic Cert.Spec

/-- A pair of a value and an index is no later than another: its value is less, or the same at an index no greater. -/
def NoLater (p q : Ideal .f32 × BitVec 32) : Prop := (p.1 : EReal) < q.1 ∨ (p.1 : EReal) = q.1 ∧ p.2.toInt ≤ q.2.toInt

/-- That is transitive. -/
theorem NoLater.trans {p q r : Ideal .f32 × BitVec 32} (h : NoLater p q) (h' : NoLater q r) : NoLater p r := by
  rcases h with h | ⟨h, hi⟩ <;> rcases h' with h' | ⟨h', hi'⟩
  · exact .inl (lt_trans h h')
  · exact .inl (h' ▸ h)
  · exact .inl (h ▸ h')
  · exact .inr ⟨h.trans h', hi.trans hi'⟩

/-- The reducer gives one of its two pairs, no later than either. -/
theorem reducer_spec (p q : Ideal .f32 × BitVec 32) :
    (reducer_argmin_f32_i32 p q = p ∨ reducer_argmin_f32_i32 p q = q)
      ∧ NoLater (reducer_argmin_f32_i32 p q) p ∧ NoLater (reducer_argmin_f32_i32 p q) q := by
  obtain ⟨a, i⟩ := p
  obtain ⟨b, j⟩ := q
  have e : reducer_argmin_f32_i32 (F := Ideal) (a, i) (b, j)
      = (Scalar.select (IntOp.ori (BitVec.ofBool (decide ((a : EReal) < b))) (BitVec.ofBool (decide ((a : EReal) ≠ a)))) a b,
        Scalar.select (IntOp.ori (IntOp.ori (BitVec.ofBool (decide ((a : EReal) < b))) (BitVec.ofBool (decide ((a : EReal) ≠ a))))
          (IntOp.andi (BitVec.ofBool (decide ((a : EReal) = b))) (BitVec.ofBool (decide (i.toInt < j.toInt))))) i j) := rfl
  rw [decide_eq_false (p := (a : EReal) ≠ a) (fun h => h rfl)] at e
  by_cases hlt : (a : EReal) < b
  · rw [decide_eq_true hlt, decide_eq_false (p := (a : EReal) = b) hlt.ne] at e
    have e' : reducer_argmin_f32_i32 (F := Ideal) (a, i) (b, j) = (a, i) := e.trans (by cases decide (i.toInt < j.toInt) <;> rfl)
    rw [e']
    exact ⟨.inl rfl, .inr ⟨rfl, le_rfl⟩, .inl hlt⟩
  by_cases heq : (a : EReal) = b
  · rw [decide_eq_false hlt, decide_eq_true heq] at e
    by_cases hi : i.toInt < j.toInt
    · rw [decide_eq_true hi] at e
      have e' : reducer_argmin_f32_i32 (F := Ideal) (a, i) (b, j) = (b, i) := e
      rw [e']
      refine ⟨.inl (congrArg (·, i) heq.symm), .inr ⟨heq.symm, le_rfl⟩, .inr ⟨rfl, hi.le⟩⟩
    · rw [decide_eq_false hi] at e
      have e' : reducer_argmin_f32_i32 (F := Ideal) (a, i) (b, j) = (b, j) := e
      rw [e']
      exact ⟨.inr rfl, .inr ⟨heq.symm, not_lt.mp hi⟩, .inr ⟨rfl, le_rfl⟩⟩
  · rw [decide_eq_false hlt, decide_eq_false (p := (a : EReal) = b) heq] at e
    have e' : reducer_argmin_f32_i32 (F := Ideal) (a, i) (b, j) = (b, j) := e.trans (by cases decide (i.toInt < j.toInt) <;> rfl)
    rw [e']
    exact ⟨.inr rfl, .inl (lt_of_le_of_ne (not_lt.mp hlt) (Ne.symm heq)), .inr ⟨rfl, le_rfl⟩⟩

/-- Folded over a list, the reducer gives the initial pair or one of the list's, no later than any of them. -/
theorem foldl_spec : ∀ (L : List (Ideal .f32 × BitVec 32)) (p : Ideal .f32 × BitVec 32),
    (L.foldl reducer_argmin_f32_i32 p = p ∨ L.foldl reducer_argmin_f32_i32 p ∈ L)
      ∧ NoLater (L.foldl reducer_argmin_f32_i32 p) p ∧ ∀ q ∈ L, NoLater (L.foldl reducer_argmin_f32_i32 p) q
  | [], p => ⟨.inl rfl, .inr ⟨rfl, le_rfl⟩, fun _ h => absurd h List.not_mem_nil⟩
  | a :: L, p => by
    obtain ⟨hm, hp, hq⟩ := foldl_spec L (reducer_argmin_f32_i32 p a)
    obtain ⟨hr, hrp, hra⟩ := reducer_spec p a
    rw [List.foldl_cons]
    refine ⟨?_, hp.trans hrp, fun q h => ?_⟩
    · rcases hm with hm | hm
      · rw [hm]
        rcases hr with hr | hr
        · exact .inl hr
        · rw [hr]
          exact .inr List.mem_cons_self
      · exact .inr (List.mem_cons_of_mem _ hm)
    · rcases List.mem_cons.mp h with rfl | h
      · exact hp.trans hra
      · exact hq q h

/-- The fiber of an arg-min at `j` holds the pairs at the indices that drop to `j`. -/
theorem mem_fiber {s t : Shape} {axes : List (Fin s.rank)} {α β : Type} (x : s.Idx → α) (y : s.Idx → β) (h : s.ReducesTo axes t)
    (j : t.Idx) (q : α × β) : q ∈ Host.argReduceFiber x y h j ↔ ∃ i, h.drop i = j ∧ q = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- A pair no later than every pair of distances and their indices, and one of them or the initial pair, is at the first
    least distance. -/
theorem index_of_least {d : Fin 1024 → EReal} (hd : Fine d) (p : Ideal .f32 × BitVec 32)
    (hm : (p.1 : EReal) = ⊤ ∨ ∃ k, p = (d k, BitVec.ofNat 32 k.val)) (hq : ∀ k, NoLater p (d k, BitVec.ofNat 32 k.val)) :
    p.2 = BitVec.ofNat 32 (first d).val := by
  obtain ⟨w, rfl⟩ := hd
  rcases hm with h | ⟨k, rfl⟩
  · rcases hq 0 with h' | ⟨h', -⟩
    · exact absurd (h ▸ h') not_top_lt
    · exact absurd (h'.symm.trans h) (EReal.coe_ne_top _)
  · have e : ∀ n : Fin 1024, (BitVec.ofNat 32 n.val).toInt = (n.val : Int) := fun n => by
      have := n.isLt
      rw [BitVec.toInt_eq_toNat_of_lt (by rw [BitVec.toNat_ofNat]; omega), BitVec.toNat_ofNat, Nat.mod_eq_of_lt (by omega)]
    have hf : First (fun i => (w i : EReal)) k := by
      refine ⟨fun n => ?_, fun n hn => ?_⟩
      · rcases hq n with h | ⟨h, -⟩
        · exact h.le
        · exact h.le
      · rcases hq n with h | ⟨-, h⟩
        · exact absurd h (hn ▸ lt_irrefl _)
        · have h' : (BitVec.ofNat 32 k.val).toInt ≤ (BitVec.ofNat 32 n.val).toInt := h
          rw [e, e] at h'
          exact Fin.le_def.mpr (by omega)
    rw [← first_unique hf]

end Cert.ReferenceIdeal.Value
-- ==== Proof.RefArgMin.lean ====
/-
  The reference's arg-min at the extended reals: on fine distances, the first index of the least one.
-/
module

public import proofs.«01_k».proof.Proof.RefFold

@[expose] public section

noncomputable section

namespace Cert.ReferenceIdeal.Value

open Cert.ReferenceIdeal Cert.ReferenceIdeal.Gen Idealize.ShloMosaic Cert.Spec

/-- Dropping the last axis of an index. -/
theorem drop_last (b : Fin 8) (s : Fin 576) (k : Fin 1024) :
    reducesTo_S8x576x1024_S8x576_d2.drop (ix3 b s k : S8x576x1024.Idx) = ix2 b s := by
  funext a
  match a with
  | ⟨0, _⟩ => rfl
  | ⟨1, _⟩ => rfl

/-- The indices along the last axis. -/
theorem iota_last (b : Fin 8) (s : Fin 576) (k : Fin 1024) : iotaInDim S8x576x1024 32 2 (ix3 b s k) = BitVec.ofNat 32 k.val := by
  pointwise

/-- The initial pair's value. -/
theorem init_top : (constant (F := Ideal) S_ .f32 0x7F800000#32 (Shape.Idx.first h_S_) : EReal) = ⊤ := bits_top

/-- The pairs an arg-min over the last axis meets at a row. -/
theorem mem_row (d : FVec Ideal S8x576x1024 .f32) (b : Fin 8) (s : Fin 576) (q : Ideal .f32 × BitVec 32) :
    q ∈ Host.argReduceFiber d (iotaInDim S8x576x1024 32 2) reducesTo_S8x576x1024_S8x576_d2 (ix2 b s)
      ↔ ∃ k : Fin 1024, q = (d (ix3 b s k), BitVec.ofNat 32 k.val) := by
  rw [mem_fiber]
  constructor
  · rintro ⟨i, hi, e⟩
    obtain ⟨b', s', k, rfl⟩ : ∃ b' s' k, i = ix3 b' s' k := ⟨i 0, i 1, i 2, ValueIdx.eq_ix3 i⟩
    rw [drop_last] at hi
    obtain rfl : b' = b := congrFun hi 0
    obtain rfl : s' = s := congrFun hi 1
    rw [iota_last] at e
    exact ⟨k, e⟩
  · rintro ⟨k, e⟩
    exact ⟨ix3 b s k, drop_last b s k, by rw [iota_last]; exact e⟩

/-- An arg-min's index is that of the fold over the pairs it meets. -/
theorem argIdx_fold {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t)
    (hu : 0 < u.numel) (j : t.Idx) : argIdx f x y ix iy h hu j
      = ((Host.argReduceFiber x y h j).foldl f (ix (Shape.Idx.first hu), iy (Shape.Idx.first hu))).2 := by
  unfold argIdx
  rw [Ideal.argReduce_eq_reduce2, Host.reduce2_eq_foldl_fiber]

/-- The reference's index at a row: the first index of the row's least distance. -/
theorem idxV_eq (d : FVec Ideal S8x576x1024 .f32) (b : Fin 8) (s : Fin 576) (hd : Fine fun k : Fin 1024 => d (ix3 b s k)) :
    idxV d (ix2 b s) = BitVec.ofNat 32 (first fun k : Fin 1024 => d (ix3 b s k)).val := by
  unfold idxV
  rw [argIdx_fold]
  have hL := mem_row d b s
  have ht := init_top
  generalize Host.argReduceFiber d (iotaInDim S8x576x1024 32 2) reducesTo_S8x576x1024_S8x576_d2 (ix2 b s) = L at hL ⊢
  generalize constant (F := Ideal) S_ .f32 0x7F800000#32 (Shape.Idx.first h_S_) = t at ht ⊢
  generalize constantI S_ 32 0#32 (Shape.Idx.first h_S_) = z
  obtain ⟨hm, -, hq⟩ := foldl_spec L (t, z)
  generalize List.foldl reducer_argmin_f32_i32 (t, z) L = p at hm hq ⊢
  refine index_of_least hd p ?_ fun k => hq _ ((hL _).mpr ⟨k, rfl⟩)
  rcases hm with rfl | hm
  · exact .inl ht
  · exact .inr ((hL _).mp hm)

end Cert.ReferenceIdeal.Value
-- ==== Proof.RefValue.lean ====
/-
  One stage of the reference at the extended reals, read at an index.
-/
module

public import proofs.«01_k».proof.Proof.RefArgMin
public import proofs.«01_k».proof.Proof.RefResult
public import proofs.«01_k».proof.Proof.Stages
public import Idealize.ShloMosaic.Lib.Pointwise

@[expose] public section

noncomputable section

namespace Cert.ReferenceIdeal.Value

open Cert.ReferenceIdeal Cert.ReferenceIdeal.Gen Idealize.ShloMosaic
open Cert.Spec hiding books

/-- Row `s` of batch `b`. -/
def row (r : FVec Ideal S8x576x256 .f32) (b : Fin 8) (s : Fin 576) : Fin 256 → EReal := fun d => r (ix3 b s d)

/-- A codebook, by rows. -/
def entries (c : FVec Ideal S1024x256 .f32) : Fin 1024 → Fin 256 → EReal := fun k d => c (ix2 k d)

/-- The distance of a row to a codebook row. -/
theorem distV_eq (r : FVec Ideal S8x576x256 .f32) (c : FVec Ideal S1024x256 .f32) (b : Fin 8) (s : Fin 576) (k : Fin 1024) :
    distV r c (ix3 b s k) = dist (row r b s) (entries c) k := by
  pointwise [distV]
  rw [bits_two]
  rfl

/-- The take's gather. -/
abbrev G : GatherDims S1024x256 S8x576x1 S8x576x256 := gather_S1024x256_S8x576x1_S8x576x256_2_0_n_n_0_2_1256

/-- The start index the gather reads for an entry: its row's. -/
theorem gather_start (b : Fin 8) (s : Fin 576) (d : Fin 256) (c : Fin G.startIndexMap.length) : G.siIdx (ix3 b s d) c = ix3 b s 0 := by
  funext a
  apply Fin.ext
  match a with
  | ⟨0, _⟩ => rfl
  | ⟨1, _⟩ => rfl
  | ⟨2, _⟩ => exact congrArg Fin.val (Subsingleton.elim (α := Fin 1) _ _)

/-- The gather at an entry: where the index is `n`, the codebook's row `n`. -/
theorem gather_eq (c : FVec Ideal S1024x256 .f32) (i : IVec S8x576x1 32) (b : Fin 8) (s : Fin 576) (d : Fin 256) (n : Fin 1024)
    (h : i (ix3 b s 0) = BitVec.ofNat 32 n.val) : Host.gather G c i (ix3 b s d) = c (ix2 n d) := by
  unfold Host.gather
  refine congrArg c (funext fun a => Fin.ext ?_)
  have hn := n.isLt
  have hi : ((BitVec.ofNat 32 n.val).toInt).toNat = n.val := by
    rw [BitVec.toInt_eq_toNat_of_lt (by rw [BitVec.toNat_ofNat]; omega), BitVec.toNat_ofNat, Nat.mod_eq_of_lt (by omega)]
    rfl
  show G.start (ix3 b s d) i a + G.batchCoord (ix3 b s d) a + G.offCoord (ix3 b s d) a = _
  rw [GatherDims.batchCoord_eq_zero _ _ _ List.not_mem_nil]
  have h0 : a = 0 ∨ a = 1 := by
    clear hn hi h
    revert a
    decide
  rcases h0 with rfl | rfl
  · rw [GatherDims.offCoord_eq_zero _ _ _ (by decide)]
    unfold GatherDims.start
    rw [dif_pos (by decide), gather_start, h, hi]
    show min n.val 1023 + 0 + 0 = n.val
    omega
  · unfold GatherDims.start
    rw [dif_neg (by decide)]
    unfold GatherDims.offCoord
    rw [dif_pos (by decide)]
    show 0 + 0 + d.val = d.val
    omega

/-- Word facts of an index below 1024: it is not negative and in range. -/
theorem index_word : ∀ n : Fin 1024, IntOp.cmpi .slt (BitVec.ofNat 32 n.val) 0#32 = 0#1
    ∧ IntOp.cmpi .sge (BitVec.ofNat 32 n.val) 0#32 = 1#1 ∧ IntOp.cmpi .sle (BitVec.ofNat 32 n.val) 1023#32 = 1#1 := by
  decide +kernel

/-- What @_take gives at an entry whose row's index is `n`: the codebook's row `n`. -/
theorem takeV_eq (c : FVec Ideal S1024x256 .f32) (i : IVec S8x576 32) (b : Fin 8) (s : Fin 576) (d : Fin 256) (n : Fin 1024)
    (h : i (ix2 b s) = BitVec.ofNat 32 n.val) : takeV c i (ix3 b s d) = c (ix2 n d) := by
  obtain ⟨h0, h1, h2⟩ := index_word n
  have hi : takeIdx i (ix3 b s 0) = BitVec.ofNat 32 n.val := by
    pointwise [takeIdx]
    rw [h, h0]
    rfl
  have hg : Host.gather gather_S1024x256_S8x576x1_S8x576x256_2_0_n_n_0_2_1256 c (takeIdx i) (ix3 b s d) = c (ix2 n d) := gather_eq c (takeIdx i) b s d n hi
  unfold takeV
  generalize takeIdx i = I at *
  pointwise
  have e : ∀ x : Fin 1, x = 0 := fun x => Subsingleton.elim _ _
  simp only [e, hi, h1, h2]
  rw [hg]
  rfl

/-- The four codebooks, by rows. -/
theorem entries_books (cb : FVec Ideal S4x1024x256 .f32) : ∀ k, entries (books cb k) = Spec.books cb k
  | 0 => by funext k d; show cbV 0 slices_S4x1024x256_S1x1024x256_0_0_0 cb (ix2 k d) = cb (ix3 0 k d); pointwise [cbV]
  | 1 => by funext k d; show cbV 1 slices_S4x1024x256_S1x1024x256_1_0_0 cb (ix2 k d) = cb (ix3 1 k d); pointwise [cbV]
  | 2 => by funext k d; show cbV 2 slices_S4x1024x256_S1x1024x256_2_0_0 cb (ix2 k d) = cb (ix3 2 k d); pointwise [cbV]
  | _ + 3 => by funext k d; show cbV 3 slices_S4x1024x256_S1x1024x256_3_0_0 cb (ix2 k d) = cb (ix3 3 k d); pointwise [cbV]

/-- The index of a fine row over a fine codebook is the nearest codebook row's. -/
theorem nearest (r : FVec Ideal S8x576x256 .f32) (c : FVec Ideal S1024x256 .f32) (b : Fin 8) (s : Fin 576)
    (hr : Fine (row r b s)) (hc : ∀ k, Fine (entries c k)) :
    idxV (distV r c) (ix2 b s) = BitVec.ofNat 32 (near (row r b s) (entries c)).val := by
  have e : (fun k : Fin 1024 => distV r c (ix3 b s k)) = dist (row r b s) (entries c) := funext fun k => distV_eq r c b s k
  rw [idxV_eq _ b s (e ▸ dist_fine hr hc), e]
  rfl

section stages

variable (x : FVec Ideal S8x576x256 .f32) {C : FVec Ideal S4x1024x256 .f32} (hC : Fine C) (b : Fin 8) (s : Fin 576)
  (hx : Fine (row x b s))
include hC hx

/-- A row of the residual is the row's residual. -/
theorem resid_row : ∀ k, row (resid x (books C) k) b s = rowRes (Spec.books C) (row x b s) k
  | 0 => rfl
  | k + 1 => by
    have ih := resid_row k
    have hi := nearest (resid x (books C) k) (books C k) b s (ih ▸ rowRes_fine (books_fine hC) hx k)
      (by rw [entries_books]; exact books_fine hC k)
    funext d
    show row (resid x (books C) k) b s d - takeV (books C k) (idxV (distV (resid x (books C) k) (books C k))) (ix3 b s d) = _
    rw [takeV_eq _ _ b s d _ hi, ih]
    show _ - entries (books C k) _ d = _
    rw [entries_books]
    rfl

/-- The index of a row at a stage. -/
theorem index_at (k : Nat) : index x (books C) k (ix2 b s) = BitVec.ofNat 32 (rowIdx (Spec.books C) (row x b s) k).val := by
  have ih := resid_row x hC b s hx k
  show idxV (distV (resid x (books C) k) (books C k)) (ix2 b s) = _
  rw [nearest _ _ b s (ih ▸ rowRes_fine (books_fine hC) hx k) (by rw [entries_books]; exact books_fine hC k), ih, entries_books]
  rfl

/-- The quantized row at a stage. -/
theorem quant_at (k : Nat) (d : Fin 256) : quantV (resid x (books C) k) (books C k) (ix3 b s d)
    = Spec.books C k (rowIdx (Spec.books C) (row x b s) k) d := by
  refine (takeV_eq (books C k) _ b s d _ (index_at x hC b s hx k)).trans ?_
  show entries (books C k) _ d = _
  rw [entries_books]

/-- The residual at an entry. -/
theorem resid_at (k : Nat) (d : Fin 256) : resid x (books C) k (ix3 b s d) = rowRes (Spec.books C) (row x b s) k d :=
  congrFun (resid_row x hC b s hx k) d

/-- The running sum at an entry. -/
theorem accum_at (d : Fin 256) : ∀ k, accum x (books C) k (ix3 b s d) = rowOut (Spec.books C) (row x b s) k d
  | 0 => by
    show broadcastInDim S8x576x256 ![] bcast_S_S8x576x256 (constant (F := Ideal) S_ .f32 0x00000000#32) (ix3 b s d) = 0
    pointwise
  | k + 1 => by
    show accum x (books C) k (ix3 b s d) + (resid x (books C) k (ix3 b s d)
      + (quantV (resid x (books C) k) (books C k) (ix3 b s d) - resid x (books C) k (ix3 b s d))) = _
    rw [accum_at d k, resid_at x hC b s hx, quant_at x hC b s hx]
    rfl

end stages

/-- The loss over its two arrays: the squared differences summed, over the number of entries. -/
theorem lossV_eq (r q : FVec Ideal S8x576x256 .f32) (j : S_.Idx) : lossV r q j = Ideal.div (∑ b : Fin 8, ∑ s : Fin 576, ∑ d : Fin 256,
    (q (ix3 b s d) - r (ix3 b s d)) * (q (ix3 b s d) - r (ix3 b s d))) (Ideal.ofBits .f32 0x49900000#32) := by
  pointwise [lossV]

/-- The loss of a stage: the rows' squared distances summed, over the number of entries. -/
theorem loss_at (x : FVec Ideal S8x576x256 .f32) {C : FVec Ideal S4x1024x256 .f32} (hC : Fine C)
    (hx : ∀ b s, Fine (row x b s)) (k : Nat) (j : S_.Idx) :
    loss x (books C) k j = Ideal.div (∑ b : Fin 8, ∑ s : Fin 576, rowLoss (Spec.books C) (row x b s) k) (Ideal.ofBits .f32 0x49900000#32) := by
  refine (lossV_eq (resid x (books C) k) (quantV (resid x (books C) k) (books C k)) j).trans (congrArg (Ideal.div · _) ?_)
  refine Finset.sum_congr rfl fun b _ => Finset.sum_congr rfl fun s _ => Finset.sum_congr rfl fun d _ => ?_
  rw [resid_at x hC b s (hx b s), quant_at x hC b s (hx b s)]

end Cert.ReferenceIdeal.Value
-- ==== Proof.Rows.lean ====
/-
  The rows counted through: row `R` of the 4608, as the kernel's blocks and as the reference's batches have it, and sums
  over all rows taken block by block or batch by batch.
-/
module

public import proofs.«01_k».proof.Proof.KRun
public import proofs.«01_k».proof.Proof.KRows
public import proofs.«01_k».proof.Proof.RefValue

@[expose] public section

noncomputable section

namespace Cert.Equal

open Idealize.ShloMosaic Cert.Spec

/-- Row `R` of the rows counted through the batches. -/
def rowAt (x : (⟨3, ![8, 576, 256]⟩ : Shape).Idx → EReal) (R : Nat) : Fin 256 → EReal :=
  fun d => x (ix3 ⟨R / 576 % 8, Nat.mod_lt _ (by decide)⟩ ⟨R % 576, Nat.mod_lt _ (by decide)⟩ d)

/-- A fine array's rows are fine. -/
theorem rowAt_fine {x : (⟨3, ![8, 576, 256]⟩ : Shape).Idx → EReal} (hx : Fine x) (R : Nat) : Fine (rowAt x R) := hx.comp _

/-- The reference's row. -/
theorem row_ref (x : FVec Ideal ReferenceIdeal.S8x576x256 .f32) (b : Fin 8) (s : Fin 576) :
    ReferenceIdeal.Value.row x b s = rowAt x (b.val * 576 + s.val) := by
  funext d
  refine congrArg x (congrArg₂ (fun p q => ix3 p q d) (Fin.ext ?_) (Fin.ext ?_))
  · show b.val = (b.val * 576 + s.val) / 576 % 8; omega
  · show s.val = (b.val * 576 + s.val) % 576; omega

/-- The list of rows at an entry. -/
theorem flat_at (x : Vec Ideal KernelIdeal.S8x576x256 .f32) (R : Fin 4608) (d : Fin 256) :
    KernelIdeal.Block.flat x (ix2 R d) = rowAt x R.val d := by
  pointwise [KernelIdeal.Block.flat, rowAt]
  have hR := R.isLt
  exact congrArg (fun p => x (ix3 p _ d)) (Fin.ext (by show R.val / 576 = R.val / 576 % 8; omega))

/-- The kernel's row. -/
theorem row_ker (x : Vec Ideal KernelIdeal.S8x576x256 .f32) (t : Fin 4) (i : Fin 1152) :
    KernelIdeal.Block.row (KernelIdeal.Block.blockRows (KernelIdeal.Block.flat x) t) i = rowAt x (t.val * 1152 + i.val) :=
  funext fun d => flat_at x ⟨t.val * 1152 + i.val, by omega⟩ d

/-- A sum over all places, taken part by part. -/
theorem sum_parts (m n : Nat) (f : Nat → EReal) : ∑ a : Fin m, ∑ b : Fin n, f (a.val * n + b.val) = ∑ k ∈ Finset.range (m * n), f k := by
  rw [← Fin.sum_univ_eq_sum_range, ← finProdFinEquiv.sum_comp, Fintype.sum_prod_type]
  refine Finset.sum_congr rfl fun a _ => Finset.sum_congr rfl fun b _ => congrArg f ?_
  show a.val * n + b.val = b.val + n * a.val
  rw [Nat.mul_comm, Nat.add_comm]

/-- The blocks of 1152 rows and the batches of 576 hold the same rows. -/
theorem sum_rows (f : Nat → EReal) : ∑ t : Fin 4, ∑ i : Fin 1152, f (t.val * 1152 + i.val) = ∑ b : Fin 8, ∑ s : Fin 576, f (b.val * 576 + s.val) := by
  rw [sum_parts, sum_parts]

end Cert.Equal
-- ==== Proof.Results.lean ====
/-
  The host's last lines read at an entry: what the kernel's three results hold of its region's arrays, and when an array is
  the reference's stack of four.
-/
module

public import proofs.«01_k».proof.Proof.KRun
public import proofs.«01_k».proof.Proof.RefResult

@[expose] public section

noncomputable section

namespace Cert.Equal

open Idealize.ShloMosaic
open Cert.KernelIdeal.Block (resOut resIdx resLoss)
open Cert.ReferenceIdeal.Value (stackIdx stackLoss)

/-- The first result at an entry. -/
theorem resOut_at (A : Vec Ideal KernelIdeal.S4608x256 .f32) (b : Fin 8) (s : Fin 576) (d : Fin 256) :
    resOut A (ix3 b s d) = A (ix2 ⟨b.val * 576 + s.val, by omega⟩ d) := by
  pointwise [resOut]

/-- The second result at an entry. -/
theorem resIdx_at (A : Vec Ideal KernelIdeal.S4608x128 .i32) (b : Fin 8) (s : Fin 576) (q : Fin 4) :
    resIdx A (ix3 b s q) = A (ix2 ⟨b.val * 576 + s.val, by omega⟩ ⟨q.val, by omega⟩) := by
  pointwise [resIdx]

/-- A host sum over the two leading axes of three, at an entry. -/
theorem sum_leading {n0 n1 n2 : Nat} (h : (⟨3, ![n0, n1, n2]⟩ : Shape).ReducesTo [0, 1] ⟨1, ![n2]⟩)
    (v : (⟨3, ![n0, n1, n2]⟩ : Shape).Idx → EReal) (z : EReal) (q : Fin n2) :
    Ideal.hostReduceAdd h v z (ix1 q) = z + ∑ t : Fin n0, ∑ a : Fin n1, v (ix3 t a q) := by
  have hd : ∀ i : (⟨3, ![n0, n1, n2]⟩ : Shape).Idx, h.drop i = ix1 q ↔ i 2 = q := by
    intro i
    have hv : (h.drop i 0 : Nat) = i 2 := Shape.ReducesTo.drop_apply_val h i 0
    refine ⟨fun e => Fin.ext (by rw [← hv, e]; rfl), fun e => ?_⟩
    rw [ValueIdx.eq_ix1 (h.drop i)]
    exact congrArg ix1 (Fin.ext (by rw [hv, e]))
  have hb : ∀ i : (⟨3, ![n0, n1, n2]⟩ : Shape).Idx, i 2 = q → ix3 (i 0) (i 1) q = i := fun i e => by
    rw [← e]; exact (ValueIdx.eq_ix3 i).symm
  unfold Ideal.hostReduceAdd
  rw [← Fintype.sum_prod_type' fun t a => v (ix3 t a q)]
  refine congrArg (z + ·) (Finset.sum_bij' (fun i _ => (i 0, i 1)) (fun p _ => ix3 p.1 p.2 q) (fun _ _ => Finset.mem_univ _)
    (fun p _ => Finset.mem_filter.2 ⟨Finset.mem_univ _, (hd _).2 rfl⟩) (fun i hi => hb i ((hd i).1 (Finset.mem_filter.1 hi).2))
    (fun _ _ => rfl) fun i hi => congrArg v (hb i ((hd i).1 (Finset.mem_filter.1 hi).2)).symm)

/-- The third result at an entry. -/
theorem resLoss_at (A : Vec Ideal KernelIdeal.S4x8x128 .f32) (q : Fin 4) :
    resLoss A (ix1 q) = Ideal.div (∑ t : Fin 4, ∑ a : Fin 8, A (ix3 t a ⟨q.val, by omega⟩)) (Ideal.ofBits .f32 0x49900000#32) := by
  pointwise [resLoss]
  rw [sum_leading, zero_add]

/-- There are four stages. -/
theorem stage_cases : ∀ q : Fin 4, q = 0 ∨ q = 1 ∨ q = 2 ∨ q = 3 := by decide

/-- An array whose four layers are the four index arrays is their stack. -/
theorem eq_stackIdx (A : IVec ReferenceIdeal.S8x576x4 32) (i0 i1 i2 i3 : IVec ReferenceIdeal.S8x576 32)
    (h0 : ∀ b s, A (ix3 b s 0) = i0 (ix2 b s)) (h1 : ∀ b s, A (ix3 b s 1) = i1 (ix2 b s))
    (h2 : ∀ b s, A (ix3 b s 2) = i2 (ix2 b s)) (h3 : ∀ b s, A (ix3 b s 3) = i3 (ix2 b s)) : A = stackIdx i0 i1 i2 i3 := by
  have key : ∀ (b : Fin 8) (s : Fin 576) (q : Fin 4), A (ix3 b s q) = stackIdx i0 i1 i2 i3 (ix3 b s q) := by
    intro b s q
    rcases stage_cases q with rfl | rfl | rfl | rfl
    · rw [h0]; pointwise [stackIdx]
    · rw [h1]; pointwise [stackIdx]
    · rw [h2]; pointwise [stackIdx]
    · rw [h3]; pointwise [stackIdx]
  funext j
  rw [ValueIdx.eq_ix3 j]
  exact key _ _ _

/-- An array whose four entries are the four losses is their stack. -/
theorem eq_stackLoss (A : FVec Ideal ReferenceIdeal.S4 .f32) (l0 l1 l2 l3 : FVec Ideal ReferenceIdeal.S_ .f32)
    (h0 : ∀ j, A (ix1 0) = l0 j) (h1 : ∀ j, A (ix1 1) = l1 j) (h2 : ∀ j, A (ix1 2) = l2 j) (h3 : ∀ j, A (ix1 3) = l3 j) :
    A = stackLoss l0 l1 l2 l3 := by
  have key : ∀ q : Fin 4, A (ix1 q) = stackLoss l0 l1 l2 l3 (ix1 q) := by
    intro q
    rcases stage_cases q with rfl | rfl | rfl | rfl
    · pointwise [stackLoss]; exact h0 _
    · pointwise [stackLoss]; exact h1 _
    · pointwise [stackLoss]; exact h2 _
    · pointwise [stackLoss]; exact h3 _
  funext j
  rw [ValueIdx.eq_ix1 j]
  exact key _

end Cert.Equal
-- ==== Proof.Equal.lean ====
/-
  The equation: the kernel's three results are the reference's, for rows and codebooks of real numbers.
-/
module

public import proofs.«01_k».proof.Proof.Rows
public import proofs.«01_k».proof.Proof.Results

@[expose] public section

noncomputable section

namespace Cert.Equal

open Idealize.ShloMosaic Cert.Spec

open Cert.KernelIdeal.Block (resOut resIdx resLoss arrOut arrIdx arrLoss flat blockRows blk loc own own_good out_at idx_at blk)
open Cert.ReferenceIdeal.Value (accum index loss stackIdx stackLoss)

variable {x : FVec Ideal KernelIdeal.S8x576x256 .f32} {C : FVec Ideal KernelIdeal.S4x1024x256 .f32} (hx : Fine x) (hC : Fine C)

/-- A row of the list, as a row of its block. -/
theorem row_blk (x : FVec Ideal KernelIdeal.S8x576x256 .f32) (R : Fin 4608) :
    KernelIdeal.Block.row (blockRows (flat x) (blk R)) (loc R) = rowAt x R.val := by
  rw [row_ker]
  exact congrArg (rowAt x) (by show R.val / 1152 * 1152 + R.val % 1152 = R.val; omega)

include hx hC

/-- A quantized row. -/
theorem arrOut_at (R : Fin 4608) (d : Fin 256) : arrOut (F := Ideal) (flat (F := Ideal) x) C (ix2 R d) = rowOut (books C) (rowAt x R.val) 4 d := by
  have h := out_at (own_good hC) (books_fine hC) (blockRows (flat x) (blk R)) (loc R)
    (by rw [row_blk]; exact rowAt_fine hx _) d 4
  rw [row_blk] at h
  exact h

/-- A row's index at stage `q`. -/
theorem arrIdx_at (R : Fin 4608) (q : Fin 128) (hq : q.val < 4) :
    arrIdx (F := Ideal) (flat (F := Ideal) x) C (ix2 R q) = BitVec.ofNat 32 (rowIdx (books C) (rowAt x R.val) q.val).val := by
  have h := idx_at (own_good hC) (books_fine hC) (blockRows (flat x) (blk R)) (loc R)
    (by rw [row_blk]; exact rowAt_fine hx _) q 4 (by omega) hq
  rw [row_blk] at h
  exact h

/-- A block's losses: the squared distances of its rows summed, in the first four lanes of the first line. -/
theorem arrLoss_at (t : Fin 4) (a : Fin 8) (q : Fin 128) (hq : q.val < 4) : arrLoss (F := Ideal) (flat (F := Ideal) x) C (ix3 t a q)
    = if a.val = 0 then ∑ i : Fin 1152, rowLoss (books C) (rowAt x (t.val * 1152 + i.val)) q.val else 0 := by
  have h := KernelIdeal.Block.loss_at (own_good hC) (books_fine hC) (blockRows (flat x) t)
    (fun i => by rw [row_ker]; exact rowAt_fine hx _) a q 4 (by omega)
  simp only [row_ker, hq, and_true] at h
  exact h

/-- The first result. -/
theorem out_eq : resOut (F := Ideal) (arrOut (F := Ideal) (flat (F := Ideal) x) C) = accum (F := Ideal) x (ReferenceIdeal.Value.books C) 4 := by
  have key : ∀ (b : Fin 8) (s : Fin 576) (d : Fin 256), resOut (F := Ideal) (arrOut (F := Ideal) (flat (F := Ideal) x) C) (ix3 b s d)
      = accum (F := Ideal) x (ReferenceIdeal.Value.books C) 4 (ix3 b s d) := fun b s d =>
    (resOut_at _ b s d).trans ((arrOut_at hx hC _ d).trans
      ((congrArg (fun r => rowOut (books C) r 4 d) (row_ref x b s).symm).trans
        (ReferenceIdeal.Value.accum_at x hC b s (row_ref x b s ▸ rowAt_fine hx _) d 4).symm))
  funext j
  rw [ValueIdx.eq_ix3 j]
  exact key _ _ _

/-- The second result, at an entry. -/
theorem idx_at_eq (b : Fin 8) (s : Fin 576) (q : Fin 4) :
    resIdx (F := Ideal) (arrIdx (F := Ideal) (flat (F := Ideal) x) C) (ix3 b s q)
      = index (F := Ideal) x (ReferenceIdeal.Value.books C) q.val (ix2 b s) :=
  (resIdx_at _ b s q).trans ((arrIdx_at hx hC _ _ q.isLt).trans
    ((congrArg (fun r => BitVec.ofNat 32 (rowIdx (books C) r q.val).val) (row_ref x b s).symm).trans
      (ReferenceIdeal.Value.index_at x hC b s (row_ref x b s ▸ rowAt_fine hx _) q.val).symm))

/-- The second result. -/
theorem idx_eq : resIdx (F := Ideal) (arrIdx (F := Ideal) (flat (F := Ideal) x) C)
    = (let f := index (F := Ideal) x (ReferenceIdeal.Value.books C); stackIdx (f 0) (f 1) (f 2) (f 3)) :=
  eq_stackIdx _ _ _ _ _ (fun b s => idx_at_eq hx hC b s 0) (fun b s => idx_at_eq hx hC b s 1) (fun b s => idx_at_eq hx hC b s 2)
    fun b s => idx_at_eq hx hC b s 3

/-- The losses' array summed over its blocks and lines, at a lane. -/
theorem loss_sum (q : Fin 128) (hq : q.val < 4) : ∑ t : Fin 4, ∑ a : Fin 8, arrLoss (F := Ideal) (flat (F := Ideal) x) C (ix3 t a q)
    = ∑ b : Fin 8, ∑ s : Fin 576, rowLoss (books C) (rowAt x (b.val * 576 + s.val)) q.val := by
  rw [← sum_rows fun R => rowLoss (books C) (rowAt x R) q.val]
  refine Finset.sum_congr rfl fun t _ => ?_
  simp only [arrLoss_at hx hC t _ q hq]
  refine (Finset.sum_eq_single (0 : Fin 8) (fun a _ ha => if_neg fun e : a.val = 0 => ha (Fin.ext e))
    fun h => absurd (Finset.mem_univ _) h).trans (if_pos rfl)

/-- The third result, at an entry. -/
theorem loss_at_eq (q : Fin 4) (j : ReferenceIdeal.S_.Idx) : resLoss (F := Ideal) (arrLoss (F := Ideal) (flat (F := Ideal) x) C) (ix1 q)
    = loss (F := Ideal) x (ReferenceIdeal.Value.books C) q.val j := by
  refine (resLoss_at _ q).trans (Eq.trans ?_
    (ReferenceIdeal.Value.loss_at x hC (fun b s => row_ref x b s ▸ rowAt_fine hx _) q.val j).symm)
  simp only [row_ref]
  exact congrArg (Ideal.div · _) (loss_sum hx hC ⟨q.val, by omega⟩ q.isLt)

/-- The third result. -/
theorem loss_eq : resLoss (F := Ideal) (arrLoss (F := Ideal) (flat (F := Ideal) x) C)
    = (let f := loss (F := Ideal) x (ReferenceIdeal.Value.books C); stackLoss (f 0) (f 1) (f 2) (f 3)) :=
  eq_stackLoss _ _ _ _ _ (loss_at_eq hx hC 0) (loss_at_eq hx hC 1) (loss_at_eq hx hC 2) (loss_at_eq hx hC 3)

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefResult
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The witness of the precondition's stated facts. -/
local instance : Cert.Pre_finite.Facts := Cert.Pre_finite.Gen.facts

/-- For rows and codebooks of real numbers the kernel and the reference leave the same three results. -/
theorem same : Cert.algebraic_KernelIdeal_ReferenceIdeal_pre_finite := by
  intro m g m' g' hpre hagree
  refine ⟨fun c => _, fun c => _, fun c => _, Cert.KernelIdeal.Block.run m g, ?_⟩
  refine θ_run_mono (Cert.ReferenceIdeal.Value.run m' g') fun r h c => ?_
  obtain ⟨h0, h1, h2, h3, h4⟩ := h c
  obtain ⟨ex, eC⟩ := hagree c
  obtain ⟨hx, hC⟩ := Cert.Pre_finite.fine_of_fn _ _ (hpre c)
  rw [ex, eC] at h0 h1 h2
  exact ⟨h0.trans (Cert.Equal.out_eq hx hC).symm, h1.trans (Cert.Equal.idx_eq hx hC).symm,
    h2.trans (Cert.Equal.loss_eq hx hC).symm, h3, h4⟩

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Value.frame m ρ,
  fun m ρ _ => Cert.ReferenceIdeal.Value.frame m ρ,
  IdealRules.bf16_pack.statement Cert.KernelIdeal.S4x1024x256,
  same⟩

end Cert.Proof

end
